-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![512, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S512x1024 : Shape := ⟨2, ![512, 1024]⟩
abbrev S8x64x1024 : Shape := ⟨3, ![8, 64, 1024]⟩
abbrev S8 : Shape := ⟨1, ![8]⟩
abbrev S2 : Shape := ⟨1, ![2]⟩
abbrev S_ : Shape := ⟨0, ![]⟩
abbrev S1 : Shape := ⟨1, ![1]⟩
abbrev S1x64x1024 : Shape := ⟨3, ![1, 64, 1024]⟩
abbrev S1x32x1024 : Shape := ⟨3, ![1, 32, 1024]⟩
abbrev S32x1024 : Shape := ⟨2, ![32, 1024]⟩
abbrev S64x2048 : Shape := ⟨2, ![64, 2048]⟩

abbrev nBuf : Space → Nat
  | .hbm => 8
  | .vmem => 6
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S512x1024, .f32⟩
  | .local _ .vmem, ⟨0, _⟩ => ⟨S64x1024, .f32⟩
  | .local _ .vmem, ⟨1, _⟩ => ⟨S512x1024, .f32⟩
  | .local _ .vmem, ⟨2, _⟩ => ⟨S8x64x1024, .bf16⟩
  | .local _ .vmem, ⟨3, _⟩ => ⟨S8x64x1024, .bf16⟩
  | .local _ .vmem, ⟨4, _⟩ => ⟨S1024x2048, .f32⟩
  | .local _ .vmem, ⟨5, _⟩ => ⟨S2048x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_22 : BitVec 32 := 1#32
  let v27 : BitVec 32 := Scalar.muli v4 c1_i32_22
  let v28 : BitVec 32 := Scalar.addi c0_i32_23 v27
  v28.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_32 : BitVec 32 := 1#32
  let v37 : BitVec 32 := Scalar.muli v7 c1_i32_32
  let v38 : BitVec 32 := Scalar.addi c0_i32_33 v37
  v38.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_53 : BitVec 32 := 1#32
  let v59 : BitVec 32 := Scalar.muli v4 c1_i32_53
  let v60 : BitVec 32 := Scalar.addi c0_i32_54 v59
  v60.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_63 : BitVec 32 := 1#32
  let v69 : BitVec 32 := Scalar.muli v7 c1_i32_63
  let v70 : BitVec 32 := Scalar.addi c0_i32_64 v69
  v70.toNat
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_93 : BitVec 32 := 1#32
  let v95 : BitVec 32 := Scalar.muli v4 c1_i32_93
  let v96 : BitVec 32 := Scalar.addi c0_i32_94 v95
  v96.toNat
def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_103 : BitVec 32 := 1#32
  let v105 : BitVec 32 := Scalar.muli v7 c1_i32_103
  let v106 : BitVec 32 := Scalar.addi c0_i32_104 v105
  v106.toNat
def k0_dev9 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_148 : BitVec 32 := 1#32
  let v147 : BitVec 32 := Scalar.muli v4 c1_i32_148
  let v148 : BitVec 32 := Scalar.addi c0_i32_149 v147
  v148.toNat
def k0_dev10 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_158 : BitVec 32 := 1#32
  let v157 : BitVec 32 := Scalar.muli v7 c1_i32_158
  let v158 : BitVec 32 := Scalar.addi c0_i32_159 v157
  v158.toNat
def k0_dev11 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_187 : BitVec 32 := 1#32
  let v183 : BitVec 32 := Scalar.muli v4 c1_i32_187
  let v184 : BitVec 32 := Scalar.addi c0_i32_188 v183
  v184.toNat
def k0_dev12 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_197 : BitVec 32 := 1#32
  let v193 : BitVec 32 := Scalar.muli v7 c1_i32_197
  let v194 : BitVec 32 := Scalar.addi c0_i32_198 v193
  v194.toNat
def k0_dev13 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_242 : BitVec 32 := 1#32
  let v235 : BitVec 32 := Scalar.muli v4 c1_i32_242
  let v236 : BitVec 32 := Scalar.addi c0_i32_243 v235
  v236.toNat
def k0_dev14 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_252 : BitVec 32 := 1#32
  let v245 : BitVec 32 := Scalar.muli v7 c1_i32_252
  let v246 : BitVec 32 := Scalar.addi c0_i32_253 v245
  v246.toNat
def k0_dev15 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_281 : BitVec 32 := 1#32
  let v271 : BitVec 32 := Scalar.muli v4 c1_i32_281
  let v272 : BitVec 32 := Scalar.addi c0_i32_282 v271
  v272.toNat
def k0_dev16 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_291 : BitVec 32 := 1#32
  let v281 : BitVec 32 := Scalar.muli v7 c1_i32_291
  let v282 : BitVec 32 := Scalar.addi c0_i32_292 v281
  v282.toNat
def k0_dev17 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_336 : BitVec 32 := 1#32
  let v323 : BitVec 32 := Scalar.muli v4 c1_i32_336
  let v324 : BitVec 32 := Scalar.addi c0_i32_337 v323
  v324.toNat
def k0_dev18 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_346 : BitVec 32 := 1#32
  let v333 : BitVec 32 := Scalar.muli v7 c1_i32_346
  let v334 : BitVec 32 := Scalar.addi c0_i32_347 v333
  v334.toNat
def k0_dev19 (d0 : Dev nD) : Nat :=
  let c0_i32_376 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_375 : BitVec 32 := 1#32
  let v359 : BitVec 32 := Scalar.muli v4 c1_i32_375
  let v360 : BitVec 32 := Scalar.addi c0_i32_376 v359
  v360.toNat
def k0_dev20 (d0 : Dev nD) : Nat :=
  let c0_i32_386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_385 : BitVec 32 := 1#32
  let v369 : BitVec 32 := Scalar.muli v7 c1_i32_385
  let v370 : BitVec 32 := Scalar.addi c0_i32_386 v369
  v370.toNat
def k0_dev21 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_430 : BitVec 32 := 1#32
  let v411 : BitVec 32 := Scalar.muli v4 c1_i32_430
  let v412 : BitVec 32 := Scalar.addi c0_i32_431 v411
  v412.toNat
def k0_dev22 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_440 : BitVec 32 := 1#32
  let v421 : BitVec 32 := Scalar.muli v7 c1_i32_440
  let v422 : BitVec 32 := Scalar.addi c0_i32_441 v421
  v422.toNat
def k0_dev23 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_469 : BitVec 32 := 1#32
  let v447 : BitVec 32 := Scalar.muli v4 c1_i32_469
  let v448 : BitVec 32 := Scalar.addi c0_i32_470 v447
  v448.toNat
def k0_dev24 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_479 : BitVec 32 := 1#32
  let v457 : BitVec 32 := Scalar.muli v7 c1_i32_479
  let v458 : BitVec 32 := Scalar.addi c0_i32_480 v457
  v458.toNat
def k0_dev25 (d0 : Dev nD) : Nat :=
  let c0_i32_525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_524 : BitVec 32 := 1#32
  let v499 : BitVec 32 := Scalar.muli v4 c1_i32_524
  let v500 : BitVec 32 := Scalar.addi c0_i32_525 v499
  v500.toNat
def k0_dev26 (d0 : Dev nD) : Nat :=
  let c0_i32_535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_534 : BitVec 32 := 1#32
  let v509 : BitVec 32 := Scalar.muli v7 c1_i32_534
  let v510 : BitVec 32 := Scalar.addi c0_i32_535 v509
  v510.toNat
def k0_dev27 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_563 : BitVec 32 := 1#32
  let v535 : BitVec 32 := Scalar.muli v4 c1_i32_563
  let v536 : BitVec 32 := Scalar.addi c0_i32_564 v535
  v536.toNat
def k0_dev28 (d0 : Dev nD) : Nat :=
  let c0_i32_574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_573 : BitVec 32 := 1#32
  let v545 : BitVec 32 := Scalar.muli v7 c1_i32_573
  let v546 : BitVec 32 := Scalar.addi c0_i32_574 v545
  v546.toNat
def k0_dev29 (d0 : Dev nD) : Nat :=
  let c0_i32_619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_618 : BitVec 32 := 1#32
  let v587 : BitVec 32 := Scalar.muli v4 c1_i32_618
  let v588 : BitVec 32 := Scalar.addi c0_i32_619 v587
  v588.toNat
def k0_dev30 (d0 : Dev nD) : Nat :=
  let c0_i32_629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_628 : BitVec 32 := 1#32
  let v597 : BitVec 32 := Scalar.muli v7 c1_i32_628
  let v598 : BitVec 32 := Scalar.addi c0_i32_629 v597
  v598.toNat
def k0_dev31 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_703 : BitVec 32 := 1#32
  let v668 : BitVec 32 := Scalar.muli v4 c1_i32_703
  let v669 : BitVec 32 := Scalar.addi c0_i32_704 v668
  v669.toNat
def k0_dev32 (d0 : Dev nD) : Nat :=
  let c0_i32_714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_713 : BitVec 32 := 1#32
  let v678 : BitVec 32 := Scalar.muli v7 c1_i32_713
  let v679 : BitVec 32 := Scalar.addi c0_i32_714 v678
  v679.toNat
def k0_dev33 (d0 : Dev nD) : Nat :=
  let c0_i32_737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_736 : BitVec 32 := 1#32
  let v700 : BitVec 32 := Scalar.muli v4 c1_i32_736
  let v701 : BitVec 32 := Scalar.addi c0_i32_737 v700
  v701.toNat
def k0_dev34 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_746 : BitVec 32 := 1#32
  let v710 : BitVec 32 := Scalar.muli v7 c1_i32_746
  let v711 : BitVec 32 := Scalar.addi c0_i32_747 v710
  v711.toNat
def k0_dev35 (d0 : Dev nD) : Nat :=
  let c0_i32_786 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_785 : BitVec 32 := 1#32
  let v742 : BitVec 32 := Scalar.muli v4 c1_i32_785
  let v743 : BitVec 32 := Scalar.addi c0_i32_786 v742
  v743.toNat
def k0_dev36 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_804 : BitVec 32 := 1#32
  let v758 : BitVec 32 := Scalar.muli v7 c1_i32_804
  let v759 : BitVec 32 := Scalar.addi c0_i32_805 v758
  v759.toNat
def k0_dev37 (d0 : Dev nD) : Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_859 : BitVec 32 := 1#32
  let v806 : BitVec 32 := Scalar.muli v4 c1_i32_859
  let v807 : BitVec 32 := Scalar.addi c0_i32_860 v806
  v807.toNat
def k0_dev38 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_878 : BitVec 32 := 1#32
  let v822 : BitVec 32 := Scalar.muli v7 c1_i32_878
  let v823 : BitVec 32 := Scalar.addi c0_i32_879 v822
  v823.toNat
def k0_dev39 (d0 : Dev nD) : Nat :=
  let c0_i32_918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_917 : BitVec 32 := 1#32
  let v854 : BitVec 32 := Scalar.muli v4 c1_i32_917
  let v855 : BitVec 32 := Scalar.addi c0_i32_918 v854
  v855.toNat
def k0_dev40 (d0 : Dev nD) : Nat :=
  let c0_i32_937 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_936 : BitVec 32 := 1#32
  let v870 : BitVec 32 := Scalar.muli v7 c1_i32_936
  let v871 : BitVec 32 := Scalar.addi c0_i32_937 v870
  v871.toNat
def k0_dev41 (d0 : Dev nD) : Nat :=
  let c0_i32_992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_991 : BitVec 32 := 1#32
  let v918 : BitVec 32 := Scalar.muli v4 c1_i32_991
  let v919 : BitVec 32 := Scalar.addi c0_i32_992 v918
  v919.toNat
def k0_dev42 (d0 : Dev nD) : Nat :=
  let c0_i32_1011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1010 : BitVec 32 := 1#32
  let v934 : BitVec 32 := Scalar.muli v7 c1_i32_1010
  let v935 : BitVec 32 := Scalar.addi c0_i32_1011 v934
  v935.toNat
def k0_dev43 (d0 : Dev nD) : Nat :=
  let c0_i32_1050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1049 : BitVec 32 := 1#32
  let v966 : BitVec 32 := Scalar.muli v4 c1_i32_1049
  let v967 : BitVec 32 := Scalar.addi c0_i32_1050 v966
  v967.toNat
def k0_dev44 (d0 : Dev nD) : Nat :=
  let c0_i32_1069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1068 : BitVec 32 := 1#32
  let v982 : BitVec 32 := Scalar.muli v7 c1_i32_1068
  let v983 : BitVec 32 := Scalar.addi c0_i32_1069 v982
  v983.toNat
def k0_dev45 (d0 : Dev nD) : Nat :=
  let c0_i32_1124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1123 : BitVec 32 := 1#32
  let v1030 : BitVec 32 := Scalar.muli v4 c1_i32_1123
  let v1031 : BitVec 32 := Scalar.addi c0_i32_1124 v1030
  v1031.toNat
def k0_dev46 (d0 : Dev nD) : Nat :=
  let c0_i32_1143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1142 : BitVec 32 := 1#32
  let v1046 : BitVec 32 := Scalar.muli v7 c1_i32_1142
  let v1047 : BitVec 32 := Scalar.addi c0_i32_1143 v1046
  v1047.toNat
def k0_dev47 (d0 : Dev nD) : Nat :=
  let c0_i32_1182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1181 : BitVec 32 := 1#32
  let v1078 : BitVec 32 := Scalar.muli v4 c1_i32_1181
  let v1079 : BitVec 32 := Scalar.addi c0_i32_1182 v1078
  v1079.toNat
def k0_dev48 (d0 : Dev nD) : Nat :=
  let c0_i32_1201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1200 : BitVec 32 := 1#32
  let v1094 : BitVec 32 := Scalar.muli v7 c1_i32_1200
  let v1095 : BitVec 32 := Scalar.addi c0_i32_1201 v1094
  v1095.toNat
def k0_dev49 (d0 : Dev nD) : Nat :=
  let c0_i32_1256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1255 : BitVec 32 := 1#32
  let v1142 : BitVec 32 := Scalar.muli v4 c1_i32_1255
  let v1143 : BitVec 32 := Scalar.addi c0_i32_1256 v1142
  v1143.toNat
def k0_dev50 (d0 : Dev nD) : Nat :=
  let c0_i32_1275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1274 : BitVec 32 := 1#32
  let v1158 : BitVec 32 := Scalar.muli v7 c1_i32_1274
  let v1159 : BitVec 32 := Scalar.addi c0_i32_1275 v1158
  v1159.toNat
def k0_dev51 (d0 : Dev nD) : Nat :=
  let c0_i32_1314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1313 : BitVec 32 := 1#32
  let v1190 : BitVec 32 := Scalar.muli v4 c1_i32_1313
  let v1191 : BitVec 32 := Scalar.addi c0_i32_1314 v1190
  v1191.toNat
def k0_dev52 (d0 : Dev nD) : Nat :=
  let c0_i32_1333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1332 : BitVec 32 := 1#32
  let v1206 : BitVec 32 := Scalar.muli v7 c1_i32_1332
  let v1207 : BitVec 32 := Scalar.addi c0_i32_1333 v1206
  v1207.toNat
def k0_dev53 (d0 : Dev nD) : Nat :=
  let c0_i32_1388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1387 : BitVec 32 := 1#32
  let v1254 : BitVec 32 := Scalar.muli v4 c1_i32_1387
  let v1255 : BitVec 32 := Scalar.addi c0_i32_1388 v1254
  v1255.toNat
def k0_dev54 (d0 : Dev nD) : Nat :=
  let c0_i32_1407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1406 : BitVec 32 := 1#32
  let v1270 : BitVec 32 := Scalar.muli v7 c1_i32_1406
  let v1271 : BitVec 32 := Scalar.addi c0_i32_1407 v1270
  v1271.toNat
def k0_dev55 (d0 : Dev nD) : Nat :=
  let c0_i32_1446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1445 : BitVec 32 := 1#32
  let v1302 : BitVec 32 := Scalar.muli v4 c1_i32_1445
  let v1303 : BitVec 32 := Scalar.addi c0_i32_1446 v1302
  v1303.toNat
def k0_dev56 (d0 : Dev nD) : Nat :=
  let c0_i32_1465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1464 : BitVec 32 := 1#32
  let v1318 : BitVec 32 := Scalar.muli v7 c1_i32_1464
  let v1319 : BitVec 32 := Scalar.addi c0_i32_1465 v1318
  v1319.toNat
def k0_dev57 (d0 : Dev nD) : Nat :=
  let c0_i32_1520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1519 : BitVec 32 := 1#32
  let v1366 : BitVec 32 := Scalar.muli v4 c1_i32_1519
  let v1367 : BitVec 32 := Scalar.addi c0_i32_1520 v1366
  v1367.toNat
def k0_dev58 (d0 : Dev nD) : Nat :=
  let c0_i32_1539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1538 : BitVec 32 := 1#32
  let v1382 : BitVec 32 := Scalar.muli v7 c1_i32_1538
  let v1383 : BitVec 32 := Scalar.addi c0_i32_1539 v1382
  v1383.toNat
def k0_dev59 (d0 : Dev nD) : Nat :=
  let c0_i32_1624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1623 : BitVec 32 := 1#32
  let v1459 : BitVec 32 := Scalar.muli v4 c1_i32_1623
  let v1460 : BitVec 32 := Scalar.addi c0_i32_1624 v1459
  v1460.toNat
def k0_dev60 (d0 : Dev nD) : Nat :=
  let c0_i32_1643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1642 : BitVec 32 := 1#32
  let v1475 : BitVec 32 := Scalar.muli v7 c1_i32_1642
  let v1476 : BitVec 32 := Scalar.addi c0_i32_1643 v1475
  v1476.toNat
def k0_dev61 (d0 : Dev nD) : Nat :=
  let c0_i32_1675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1674 : BitVec 32 := 1#32
  let v1503 : BitVec 32 := Scalar.muli v4 c1_i32_1674
  let v1504 : BitVec 32 := Scalar.addi c0_i32_1675 v1503
  v1504.toNat
def k0_dev62 (d0 : Dev nD) : Nat :=
  let c0_i32_1694 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1693 : BitVec 32 := 1#32
  let v1519 : BitVec 32 := Scalar.muli v7 c1_i32_1693
  let v1520 : BitVec 32 := Scalar.addi c0_i32_1694 v1519
  v1520.toNat
def k0_dev63 (d0 : Dev nD) : Nat :=
  let c0_i32_1733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1732 : BitVec 32 := 1#32
  let v1551 : BitVec 32 := Scalar.muli v4 c1_i32_1732
  let v1552 : BitVec 32 := Scalar.addi c0_i32_1733 v1551
  v1552.toNat
def k0_dev64 (d0 : Dev nD) : Nat :=
  let c0_i32_1752 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1751 : BitVec 32 := 1#32
  let v1567 : BitVec 32 := Scalar.muli v7 c1_i32_1751
  let v1568 : BitVec 32 := Scalar.addi c0_i32_1752 v1567
  v1568.toNat
def k0_dev65 (d0 : Dev nD) : Nat :=
  let c0_i32_1807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1806 : BitVec 32 := 1#32
  let v1615 : BitVec 32 := Scalar.muli v4 c1_i32_1806
  let v1616 : BitVec 32 := Scalar.addi c0_i32_1807 v1615
  v1616.toNat
def k0_dev66 (d0 : Dev nD) : Nat :=
  let c0_i32_1826 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1825 : BitVec 32 := 1#32
  let v1631 : BitVec 32 := Scalar.muli v7 c1_i32_1825
  let v1632 : BitVec 32 := Scalar.addi c0_i32_1826 v1631
  v1632.toNat
def k0_dev67 (d0 : Dev nD) : Nat :=
  let c0_i32_1865 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1864 : BitVec 32 := 1#32
  let v1663 : BitVec 32 := Scalar.muli v4 c1_i32_1864
  let v1664 : BitVec 32 := Scalar.addi c0_i32_1865 v1663
  v1664.toNat
def k0_dev68 (d0 : Dev nD) : Nat :=
  let c0_i32_1884 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1883 : BitVec 32 := 1#32
  let v1679 : BitVec 32 := Scalar.muli v7 c1_i32_1883
  let v1680 : BitVec 32 := Scalar.addi c0_i32_1884 v1679
  v1680.toNat
def k0_dev69 (d0 : Dev nD) : Nat :=
  let c0_i32_1939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1938 : BitVec 32 := 1#32
  let v1727 : BitVec 32 := Scalar.muli v4 c1_i32_1938
  let v1728 : BitVec 32 := Scalar.addi c0_i32_1939 v1727
  v1728.toNat
def k0_dev70 (d0 : Dev nD) : Nat :=
  let c0_i32_1958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1957 : BitVec 32 := 1#32
  let v1743 : BitVec 32 := Scalar.muli v7 c1_i32_1957
  let v1744 : BitVec 32 := Scalar.addi c0_i32_1958 v1743
  v1744.toNat
def k0_dev71 (d0 : Dev nD) : Nat :=
  let c0_i32_1997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1996 : BitVec 32 := 1#32
  let v1775 : BitVec 32 := Scalar.muli v4 c1_i32_1996
  let v1776 : BitVec 32 := Scalar.addi c0_i32_1997 v1775
  v1776.toNat
def k0_dev72 (d0 : Dev nD) : Nat :=
  let c0_i32_2016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2015 : BitVec 32 := 1#32
  let v1791 : BitVec 32 := Scalar.muli v7 c1_i32_2015
  let v1792 : BitVec 32 := Scalar.addi c0_i32_2016 v1791
  v1792.toNat
def k0_dev73 (d0 : Dev nD) : Nat :=
  let c0_i32_2071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2070 : BitVec 32 := 1#32
  let v1839 : BitVec 32 := Scalar.muli v4 c1_i32_2070
  let v1840 : BitVec 32 := Scalar.addi c0_i32_2071 v1839
  v1840.toNat
def k0_dev74 (d0 : Dev nD) : Nat :=
  let c0_i32_2090 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2089 : BitVec 32 := 1#32
  let v1855 : BitVec 32 := Scalar.muli v7 c1_i32_2089
  let v1856 : BitVec 32 := Scalar.addi c0_i32_2090 v1855
  v1856.toNat
def k0_dev75 (d0 : Dev nD) : Nat :=
  let c0_i32_2129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2128 : BitVec 32 := 1#32
  let v1887 : BitVec 32 := Scalar.muli v4 c1_i32_2128
  let v1888 : BitVec 32 := Scalar.addi c0_i32_2129 v1887
  v1888.toNat
def k0_dev76 (d0 : Dev nD) : Nat :=
  let c0_i32_2148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2147 : BitVec 32 := 1#32
  let v1903 : BitVec 32 := Scalar.muli v7 c1_i32_2147
  let v1904 : BitVec 32 := Scalar.addi c0_i32_2148 v1903
  v1904.toNat
def k0_dev77 (d0 : Dev nD) : Nat :=
  let c0_i32_2203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2202 : BitVec 32 := 1#32
  let v1951 : BitVec 32 := Scalar.muli v4 c1_i32_2202
  let v1952 : BitVec 32 := Scalar.addi c0_i32_2203 v1951
  v1952.toNat
def k0_dev78 (d0 : Dev nD) : Nat :=
  let c0_i32_2222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2221 : BitVec 32 := 1#32
  let v1967 : BitVec 32 := Scalar.muli v7 c1_i32_2221
  let v1968 : BitVec 32 := Scalar.addi c0_i32_2222 v1967
  v1968.toNat
def k0_dev79 (d0 : Dev nD) : Nat :=
  let c0_i32_2261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2260 : BitVec 32 := 1#32
  let v1999 : BitVec 32 := Scalar.muli v4 c1_i32_2260
  let v2000 : BitVec 32 := Scalar.addi c0_i32_2261 v1999
  v2000.toNat
def k0_dev80 (d0 : Dev nD) : Nat :=
  let c0_i32_2280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2279 : BitVec 32 := 1#32
  let v2015 : BitVec 32 := Scalar.muli v7 c1_i32_2279
  let v2016 : BitVec 32 := Scalar.addi c0_i32_2280 v2015
  v2016.toNat
def k0_dev81 (d0 : Dev nD) : Nat :=
  let c0_i32_2335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2334 : BitVec 32 := 1#32
  let v2063 : BitVec 32 := Scalar.muli v4 c1_i32_2334
  let v2064 : BitVec 32 := Scalar.addi c0_i32_2335 v2063
  v2064.toNat
def k0_dev82 (d0 : Dev nD) : Nat :=
  let c0_i32_2354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2353 : BitVec 32 := 1#32
  let v2079 : BitVec 32 := Scalar.muli v7 c1_i32_2353
  let v2080 : BitVec 32 := Scalar.addi c0_i32_2354 v2079
  v2080.toNat
def k0_dev83 (d0 : Dev nD) : Nat :=
  let c0_i32_2393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2392 : BitVec 32 := 1#32
  let v2111 : BitVec 32 := Scalar.muli v4 c1_i32_2392
  let v2112 : BitVec 32 := Scalar.addi c0_i32_2393 v2111
  v2112.toNat
def k0_dev84 (d0 : Dev nD) : Nat :=
  let c0_i32_2412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2411 : BitVec 32 := 1#32
  let v2127 : BitVec 32 := Scalar.muli v7 c1_i32_2411
  let v2128 : BitVec 32 := Scalar.addi c0_i32_2412 v2127
  v2128.toNat
def k0_dev85 (d0 : Dev nD) : Nat :=
  let c0_i32_2467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2466 : BitVec 32 := 1#32
  let v2175 : BitVec 32 := Scalar.muli v4 c1_i32_2466
  let v2176 : BitVec 32 := Scalar.addi c0_i32_2467 v2175
  v2176.toNat
def k0_dev86 (d0 : Dev nD) : Nat :=
  let c0_i32_2486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2485 : BitVec 32 := 1#32
  let v2191 : BitVec 32 := Scalar.muli v7 c1_i32_2485
  let v2192 : BitVec 32 := Scalar.addi c0_i32_2486 v2191
  v2192.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2547 : BitVec 32 := 3#32
  let v2249 : BitVec 32 := Scalar.addi v2 c3_i32_2547
  let c8_i32_2548 : BitVec 32 := 8#32
  let v2250 : BitVec 32 := Scalar.remsi v2249 c8_i32_2548
  let c64_i32 : BitVec 32 := 64#32
  let v2257 : BitVec 32 := Scalar.muli v2250 c64_i32
  let v2258 : Index := Scalar.indexCast v2257
  let c0_2555 : Index := 0#32
  ![v2258.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2549 : BitVec 32 := 8#32
  let v2251 : BitVec 32 := Scalar.addi v2 c8_i32_2549
  let c3_i32_2550 : BitVec 32 := 3#32
  let v2252 : BitVec 32 := Scalar.subi v2251 c3_i32_2550
  let c8_i32_2551 : BitVec 32 := 8#32
  let v2253 : BitVec 32 := Scalar.remsi v2252 c8_i32_2551
  let c64_i32_2558 : BitVec 32 := 64#32
  let v2263 : BitVec 32 := Scalar.muli v2253 c64_i32_2558
  let c32_i32_2559 : BitVec 32 := 32#32
  let v2264 : BitVec 32 := Scalar.addi v2263 c32_i32_2559
  let v2265 : Index := Scalar.indexCast v2264
  let c0_2560 : Index := 0#32
  ![v2265.toNat, 0]
def k0_dev87 (d0 : Dev nD) : Nat :=
  let c0_i32_2575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2574 : BitVec 32 := 1#32
  let v2273 : BitVec 32 := Scalar.muli v4 c1_i32_2574
  let v2274 : BitVec 32 := Scalar.addi c0_i32_2575 v2273
  v2274.toNat
def k0_dev88 (d0 : Dev nD) : Nat :=
  let c0_i32_2594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2593 : BitVec 32 := 1#32
  let v2289 : BitVec 32 := Scalar.muli v7 c1_i32_2593
  let v2290 : BitVec 32 := Scalar.addi c0_i32_2594 v2289
  v2290.toNat
def k0_dev89 (d0 : Dev nD) : Nat :=
  let c0_i32_2633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2632 : BitVec 32 := 1#32
  let v2321 : BitVec 32 := Scalar.muli v4 c1_i32_2632
  let v2322 : BitVec 32 := Scalar.addi c0_i32_2633 v2321
  v2322.toNat
def k0_dev90 (d0 : Dev nD) : Nat :=
  let c0_i32_2652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2651 : BitVec 32 := 1#32
  let v2337 : BitVec 32 := Scalar.muli v7 c1_i32_2651
  let v2338 : BitVec 32 := Scalar.addi c0_i32_2652 v2337
  v2338.toNat
def k0_off3 (d0 : Dev nD) (c0_i32_2659 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2657 : BitVec 32 := 3#32
  let v2347 : BitVec 32 := Scalar.addi v2 c3_i32_2657
  let c1_i32_2658 : BitVec 32 := 1#32
  let v2348 : BitVec 32 := Scalar.subi v2347 c1_i32_2658
  let v2349 : BitVec 32 := Scalar.subi v2348 c0_i32_2659
  let c8_i32_2660 : BitVec 32 := 8#32
  let v2350 : BitVec 32 := Scalar.addi v2349 c8_i32_2660
  let c8_i32_2661 : BitVec 32 := 8#32
  let v2351 : BitVec 32 := Scalar.remsi v2350 c8_i32_2661
  let c64_i32_2670 : BitVec 32 := 64#32
  let v2360 : BitVec 32 := Scalar.muli v2351 c64_i32_2670
  let v2361 : Index := Scalar.indexCast v2360
  let c0_2671 : Index := 0#32
  ![v2361.toNat, 0]
def k0_off4 (d0 : Dev nD) (c0_i32_2662 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2352 : BitVec 32 := Scalar.addi v2 c0_i32_2662
  let c1_i32_2663 : BitVec 32 := 1#32
  let v2353 : BitVec 32 := Scalar.addi v2352 c1_i32_2663
  let c3_i32_2664 : BitVec 32 := 3#32
  let v2354 : BitVec 32 := Scalar.subi v2353 c3_i32_2664
  let c8_i32_2665 : BitVec 32 := 8#32
  let v2355 : BitVec 32 := Scalar.addi v2354 c8_i32_2665
  let c8_i32_2666 : BitVec 32 := 8#32
  let v2356 : BitVec 32 := Scalar.remsi v2355 c8_i32_2666
  let c64_i32_2675 : BitVec 32 := 64#32
  let v2366 : BitVec 32 := Scalar.muli v2356 c64_i32_2675
  let c32_i32_2676 : BitVec 32 := 32#32
  let v2367 : BitVec 32 := Scalar.addi v2366 c32_i32_2676
  let v2368 : Index := Scalar.indexCast v2367
  let c0_2677 : Index := 0#32
  ![v2368.toNat, 0]
def k0_dev91 (d0 : Dev nD) : Nat :=
  let c0_i32_2712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2711 : BitVec 32 := 1#32
  let v2392 : BitVec 32 := Scalar.muli v4 c1_i32_2711
  let v2393 : BitVec 32 := Scalar.addi c0_i32_2712 v2392
  v2393.toNat
def k0_dev92 (d0 : Dev nD) : Nat :=
  let c0_i32_2731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2730 : BitVec 32 := 1#32
  let v2408 : BitVec 32 := Scalar.muli v7 c1_i32_2730
  let v2409 : BitVec 32 := Scalar.addi c0_i32_2731 v2408
  v2409.toNat
def k0_dev93 (d0 : Dev nD) : Nat :=
  let c0_i32_2791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2790 : BitVec 32 := 1#32
  let v2463 : BitVec 32 := Scalar.muli v4 c1_i32_2790
  let v2464 : BitVec 32 := Scalar.addi c0_i32_2791 v2463
  v2464.toNat
def k0_dev94 (d0 : Dev nD) : Nat :=
  let c0_i32_2810 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2809 : BitVec 32 := 1#32
  let v2479 : BitVec 32 := Scalar.muli v7 c1_i32_2809
  let v2480 : BitVec 32 := Scalar.addi c0_i32_2810 v2479
  v2480.toNat
def k0_dev95 (d0 : Dev nD) : Nat :=
  let c0_i32_2870 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2869 : BitVec 32 := 1#32
  let v2534 : BitVec 32 := Scalar.muli v4 c1_i32_2869
  let v2535 : BitVec 32 := Scalar.addi c0_i32_2870 v2534
  v2535.toNat
def k0_dev96 (d0 : Dev nD) : Nat :=
  let c0_i32_2889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2888 : BitVec 32 := 1#32
  let v2550 : BitVec 32 := Scalar.muli v7 c1_i32_2888
  let v2551 : BitVec 32 := Scalar.addi c0_i32_2889 v2550
  v2551.toNat
def k0_dev97 (d0 : Dev nD) : Nat :=
  let c0_i32_2949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2948 : BitVec 32 := 1#32
  let v2605 : BitVec 32 := Scalar.muli v4 c1_i32_2948
  let v2606 : BitVec 32 := Scalar.addi c0_i32_2949 v2605
  v2606.toNat
def k0_dev98 (d0 : Dev nD) : Nat :=
  let c0_i32_2968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2967 : BitVec 32 := 1#32
  let v2621 : BitVec 32 := Scalar.muli v7 c1_i32_2967
  let v2622 : BitVec 32 := Scalar.addi c0_i32_2968 v2621
  v2622.toNat
def k0_dev99 (d0 : Dev nD) : Nat :=
  let c0_i32_3028 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3027 : BitVec 32 := 1#32
  let v2676 : BitVec 32 := Scalar.muli v4 c1_i32_3027
  let v2677 : BitVec 32 := Scalar.addi c0_i32_3028 v2676
  v2677.toNat
def k0_dev100 (d0 : Dev nD) : Nat :=
  let c0_i32_3047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3046 : BitVec 32 := 1#32
  let v2692 : BitVec 32 := Scalar.muli v7 c1_i32_3046
  let v2693 : BitVec 32 := Scalar.addi c0_i32_3047 v2692
  v2693.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S16384x1024 : Shape := ⟨2, ![16384, 1024]⟩
abbrev S512x16384 : Shape := ⟨2, ![512, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S1024x16384, .f32⟩
  | .hbm, ⟨3, _⟩ => ⟨S1024x16384, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S512x16384, .f32⟩
  | .hbm, ⟨8, _⟩ => ⟨S_, .f32⟩
  | .hbm, ⟨9, _⟩ => ⟨S512x16384, .f32⟩
  | .hbm, ⟨10, _⟩ => ⟨S512x16384, .f32⟩
  | .hbm, ⟨11, _⟩ => ⟨S512x1024, .f32⟩
  | .hbm, ⟨12, _⟩ => ⟨S512x16384, .f32⟩
  | .hbm, ⟨13, _⟩ => ⟨S_, .f32⟩
  | .hbm, ⟨14, _⟩ => ⟨S512x16384, .f32⟩
  | .hbm, ⟨15, _⟩ => ⟨S512x16384, .f32⟩
  | .hbm, ⟨16, _⟩ => ⟨S512x1024, .f32⟩
  | .hbm, ⟨17, _⟩ => ⟨S512x16384, .f32⟩
  | .hbm, ⟨18, _⟩ => ⟨S_, .f32⟩
  | .hbm, ⟨19, _⟩ => ⟨S512x16384, .f32⟩
  | .hbm, ⟨20, _⟩ => ⟨S512x16384, .f32⟩
  | .hbm, ⟨21, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Body.lean ====
/- The kernel's body written as loops over hops: one definition per kind of step, with the hop's
   number as a variable, and the theorem that the printed body is this program. -/
module

public import proofs.«01_k».proof.Proof.Gen.KernelIdeal.Skeleton
public import proofs.«01_k».proof.Proof.Gen.KernelIdeal.Points

@[expose] public section

noncomputable section

namespace Cert.KernelIdeal.Hop

open Idealize.ShloMosaic Idealize.SL.Sem Cert.KernelIdeal Cert.KernelIdeal.Gen

variable {F : FTy → Type} [FloatOps F]

/-- A program of this kernel's body that returns nothing. -/
abbrev P (F : FTy → Type) := Prog (TpuEff nD τ sig (Elt F) Λ₀ .tc) PUnit

/-! ## The operands

`k` tells the two rings of buffers apart (`false` the activations, `true` the accumulators); `r`
tells the direction (`false` the upper 32 rows, sent to the right; `true` the lower 32 rows, sent to
the left). -/

/-- The slot a hop's number names: the buffers have eight. -/
def slot (n : ℕ) : Fin 8 := ⟨n % 8, Nat.mod_lt _ (by decide)⟩

/-- The first row of the half that direction `r` moves. -/
def row0 (r : Bool) : ℕ := bif r then 32 else 0

/-- The eight-slot buffer of ring `k`. -/
abbrev buf (k : Bool) : Memref sig .tc .vmem S8x64x1024 .bf16 :=
  bif k then Memref.whole cc0_scratch1 else Memref.whole cc0_scratch0

theorem buf_isWhole (k : Bool) : (buf k).IsWhole := by
  cases k <;> exact Memref.isWhole_whole _

theorem half_inb (r : Bool) (s : Fin 8) :
    ∀ a, (![s.val, row0 r, 0] : Fin 3 → ℕ) a + S1x32x1024.size a ≤ S8x64x1024.size a := by
  revert r s; decide

theorem half_words (r : Bool) (s : Fin 8) :
    (Rect.unit (s := S8x64x1024) ![s.val, row0 r, 0] S1x32x1024.size (half_inb r s)).WholeWords
      (EltTy.packing .bf16) := by
  revert r s; decide

theorem slot_inb (s : Fin 8) :
    ∀ a, (![s.val, 0, 0] : Fin 3 → ℕ) a + S1x64x1024.size a ≤ S8x64x1024.size a := by
  revert s; decide

theorem slot_packed (s : Fin 8) :
    (Rect.unit (s := S8x64x1024) ![s.val, 0, 0] S1x64x1024.size (slot_inb s)).PackedRows
      (EltTy.packing .bf16) := by
  revert s; decide

/-- The rectangle of one half of a slot. -/
abbrev halfR (r : Bool) (s : Fin 8) : Rect S8x64x1024 :=
  Rect.unit (s := S8x64x1024) ![s.val, row0 r, 0] S1x32x1024.size (half_inb r s)

/-- The rectangle of a slot. -/
abbrev slotR (s : Fin 8) : Rect S8x64x1024 :=
  Rect.unit (s := S8x64x1024) ![s.val, 0, 0] S1x64x1024.size (slot_inb s)

/-- One half of one slot of ring `k`'s buffer: what a transfer reads and writes. -/
abbrev half (k r : Bool) (s : Fin 8) : Memref sig .tc .vmem S32x1024 .bf16 :=
  ((buf k).slice (halfR r s) (fun _ => rfl)).squeeze S32x1024 squeezes_S1x32x1024_S32x1024

theorem half_wordExact (k r : Bool) (s : Fin 8) : (half k r s).view.WordExact :=
  ((buf_isWhole k).wordExact_slice rfl _ (half_words r s)).reshape _ _

theorem sem_inb (s : Fin 8) : ∀ a, (![s.val] : Fin 1 → ℕ) a + S1.size a ≤ S8.size a := by
  revert s; decide

/-- The array of send semaphores of ring `k` in direction `r`. -/
abbrev sendArr (k r : Bool) : DmaSems sig S8 :=
  bif k then (bif r then cc0_scratch10 else cc0_scratch8) else (bif r then cc0_scratch6 else cc0_scratch4)

/-- The array of receive semaphores of ring `k` in direction `r`. -/
abbrev recvArr (k r : Bool) : DmaSems sig S8 :=
  bif k then (bif r then cc0_scratch11 else cc0_scratch9) else (bif r then cc0_scratch7 else cc0_scratch5)

/-- Element `s` of an eight-element semaphore array. -/
abbrev semAt (a : DmaSems sig S8) (s : Fin 8) : DmaSem sig :=
  ((a.slice (Rect.unit (s := S8) ![s.val] S1.size (sem_inb s))).squeeze S_ squeezes_S1_S_).sem

/-- The send semaphore of slot `s`. -/
abbrev sendSem (k r : Bool) (s : Fin 8) : DmaSem sig := semAt (sendArr k r) s

/-- The receive semaphore of slot `s`. -/
abbrev recvSem (k r : Bool) (s : Fin 8) : DmaSem sig := semAt (recvArr k r) s

/-- The two weight semaphores. -/
abbrev wSem0 : DmaSem sig :=
  ((cc0_scratch12.slice (Rect.unit (s := S2) ![0] S1.size inb_S2_S1_0)).squeeze S_ squeezes_S1_S_).sem

abbrev wSem1 : DmaSem sig :=
  ((cc0_scratch12.slice (Rect.unit (s := S2) ![1] S1.size inb_S2_S1_1)).squeeze S_ squeezes_S1_S_).sem

/-- The barrier semaphore. -/
abbrev barS : Sem sig := (SemArray.scalar (sig.barrier 0 rfl) : Sems sig S_).sem

/-- The neighbour that direction `r` sends to, as the kernel computes it. -/
def peer (r : Bool) (d : Dev nD) : Dev nD :=
  bif r then ⟨k0_dev4 d, k0_dev4_lt d⟩ else ⟨k0_dev3 d, k0_dev3_lt d⟩

/-- The staged block of the input. -/
abbrev xM : Memref sig .tc .vmem S64x1024 .f32 := Memref.whole cc0_stg0_0

/-- The staged block of the output. -/
abbrev oM : Memref sig .tc .vmem S512x1024 .f32 := Memref.whole cc0_stg1_0

/-- Layer `l`'s first weight. -/
abbrev winM (l : ℕ) : Memref sig .tc .hbm S1024x2048 .f32 :=
  match l with
  | 0 => Memref.whole main_arg1
  | 1 => Memref.whole main_arg2
  | _ => Memref.whole main_arg3

/-- Layer `l`'s second weight. -/
abbrev woutM (l : ℕ) : Memref sig .tc .hbm S2048x1024 .f32 :=
  match l with
  | 0 => Memref.whole main_arg4
  | 1 => Memref.whole main_arg5
  | _ => Memref.whole main_arg6

theorem winM_wordExact (l : ℕ) : (winM l).view.WordExact := by
  unfold winM; split <;> exact (Memref.isWhole_whole _).wordExact

theorem woutM_wordExact (l : ℕ) : (woutM l).view.WordExact := by
  unfold woutM; split <;> exact (Memref.isWhole_whole _).wordExact

/-- The buffer of the current first weight. -/
abbrev wiM : Memref sig .tc .vmem S1024x2048 .f32 := Memref.whole cc0_scratch2

/-- The buffer of the current second weight. -/
abbrev woM : Memref sig .tc .vmem S2048x1024 .f32 := Memref.whole cc0_scratch3

/-! ## What is computed -/

/-- The input block as an activation. -/
def inVal (x : Vec F S64x1024 .f32) : Vec F S1x64x1024 .bf16 := k0_pay1 x

/-- A device's contribution to a chunk: its part of the hidden layer applied to the activation. -/
def contrib (a : Vec F S1x64x1024 .bf16) (wi : Vec F S1024x2048 .f32) (wo : Vec F S2048x1024 .f32) :
    FVec F S64x1024 .f32 := k0_pay2 a wi wo

/-- A layer's first accumulator. -/
def headVal (v : FVec F S64x1024 .f32) : Vec F S1x64x1024 .bf16 := k0_pay3 v

/-- The accumulator with this device's contribution added. -/
def addVal (v : FVec F S64x1024 .f32) (a : Vec F S1x64x1024 .bf16) : Vec F S1x64x1024 .bf16 := k0_pay5 v a

/-- A layer's first activation: the previous layer's accumulator. -/
def nextVal (a : Vec F S1x64x1024 .bf16) : Vec F S1x64x1024 .bf16 := k0_pay18 a

/-- Half a chunk as it is written out. -/
def outVal (a : Vec F S1x32x1024 .bf16) : Vec F S32x1024 .f32 := k0_pay52 a

/-! ## The steps -/

/-- Wait for hop `n`'s data to have left. -/
def waitSend (k r : Bool) (n : ℕ) : P F :=
  Prog.lift (.waitDma2 (sendSem k r (slot n)) (half k r (slot (n + 1))) (half k r (slot n))
    (half_wordExact k r _) (half_wordExact k r _))

/-- Wait for hop `n`'s data to have arrived. -/
def waitRecv (k r : Bool) (n : ℕ) : P F :=
  Prog.lift (.waitDma2 (recvSem k r (slot (n + 1))) (half k r (slot n)) (half k r (slot (n + 1)))
    (half_wordExact k r _) (half_wordExact k r _))

/-- Start hop `n`: half of slot `n` goes to the neighbour's slot `n + 1`. -/
def start (k r : Bool) (d : Dev nD) (n : ℕ) : P F :=
  Prog.lift (.enqueueDma (half k r (slot n))
    (.remote (Dev.tc (peer r d)) (half k r (slot (n + 1))) (.dma (sendSem k r (slot n))))
    (.dma (recvSem k r (slot (n + 1)))) (half_wordExact k r _) (half_wordExact k r _)
    ⟨⟨by cases k <;> rfl, Or.inl (by cases k <;> rfl)⟩, trivial⟩)

/-- Start hop `n` after the hop that used the slot before it has left. -/
def startStep (k r : Bool) (d : Dev nD) (n : ℕ) : P F :=
  bif Nat.ble 8 n then (do waitSend k r (n - 8); start k r d n) else start k r d n

/-- Start hop `n` in both directions. -/
def startBoth (k : Bool) (d : Dev nD) (n : ℕ) : P F := do
  startStep k false d n
  startStep k true d n

/-- Wait for both halves of hop `n`. -/
def recvBoth (k : Bool) (n : ℕ) : P F := do
  waitRecv k false n
  waitRecv k true n

/-- Load a slot. -/
def loadSlot (k : Bool) (s : Fin 8) : Prog (TpuEff nD τ sig (Elt F) Λ₀ .tc) (Vec F S1x64x1024 .bf16) :=
  Prog.lift (.load (buf k) (slotR s).toLoadRect (View.loadsAt_vmem h_S1x64x1024))

/-- Store a slot. -/
def storeSlot (k : Bool) (s : Fin 8) (v : Vec F S1x64x1024 .bf16) : P F :=
  Prog.lift (.store (buf k) (slotR s) v Finset.univ
    (View.stores_vmem h_S1x64x1024 ((buf_isWhole k).storeExact_slice (by cases k <;> rfl) _ (slot_packed s))
      (fun _ => rfl)) (.inl rfl))

/-- Load the two weights. -/
def loadW : Prog (TpuEff nD τ sig (Elt F) Λ₀ .tc) (Vec F S1024x2048 .f32 × Vec F S2048x1024 .f32) := do
  let wi ← Prog.lift (.load wiM (Rect.unit (s := S1024x2048) ![0, 0] S1024x2048.size inb_S1024x2048_S1024x2048_0_0).toLoadRect (View.loadsAt_vmem h_S1024x2048))
  let wo ← Prog.lift (.load woM (Rect.unit (s := S2048x1024) ![0, 0] S2048x1024.size inb_S2048x1024_S2048x1024_0_0).toLoadRect (View.loadsAt_vmem h_S2048x1024))
  pure (wi, wo)

/-- Fetch layer `l`'s weights. -/
def fetchW (l : ℕ) : P F := do
  Prog.lift (.enqueueDma (winM l) (.here wiM) (.dma wSem0) (winM_wordExact l) (Memref.isWhole_whole _).wordExact ⟨Or.inl rfl, trivial⟩)
  Prog.lift (.enqueueDma (woutM l) (.here woM) (.dma wSem1) (woutM_wordExact l) (Memref.isWhole_whole _).wordExact ⟨Or.inl rfl, trivial⟩)
  Prog.lift (.waitDma2 wSem0 (winM l) wiM (winM_wordExact l) (Memref.isWhole_whole _).wordExact)
  Prog.lift (.waitDma2 wSem1 (woutM l) woM (woutM_wordExact l) (Memref.isWhole_whole _).wordExact)

/-- The first activation of layer `l`, which begins at slot `n`. -/
def firstAct (l n : ℕ) : P F :=
  match l with
  | 0 => do
    let x ← Prog.lift (.load xM (Rect.unit (s := S64x1024) ![0, 0] S64x1024.size inb_S64x1024_S64x1024_0_0).toLoadRect (View.loadsAt_vmem h_S64x1024))
    let _ ← loadSlot false (slot n)
    storeSlot false (slot n) (inVal x)
  | _ => do
    let a ← loadSlot true (slot n)
    let _ ← loadSlot false (slot n)
    storeSlot false (slot n) (nextVal a)

/-- A layer's beginning. -/
def head (d : Dev nD) (l n : ℕ) : P F := do
  fetchW l
  firstAct l n
  startBoth false d n
  let a ← loadSlot false (slot n)
  let (wi, wo) ← loadW
  let _ ← loadSlot true (slot n)
  storeSlot true (slot n) (headVal (contrib a wi wo))
  startBoth true d n

/-- Start hop `n` of ring `k` unless the layer ends here. -/
def startUnless (last : Bool) (k : Bool) (d : Dev nD) (n : ℕ) : P F :=
  bif last then pure ⟨⟩ else startBoth k d n

/-- Hop `n` of a layer received, and the next one started unless it is the layer's last. -/
def hop (d : Dev nD) (last : Bool) (n : ℕ) : P F := do
  recvBoth false n
  startUnless last false d (n + 1)
  let a ← loadSlot false (slot (n + 1))
  let (wi, wo) ← loadW
  recvBoth true n
  let c ← loadSlot true (slot (n + 1))
  let _ ← loadSlot true (slot (n + 1))
  storeSlot true (slot (n + 1)) (addVal (contrib a wi wo) c)
  startUnless last true d (n + 1)

/-- `m` programs in a row, from number `n`. -/
def seq (f : ℕ → P F) : ℕ → ℕ → P F
  | 0, _ => pure ⟨⟩
  | m + 1, n => do f n; seq f m (n + 1)

/-- A layer: its beginning and its seven hops. -/
def layer (d : Dev nD) (l : ℕ) : P F := do
  head d l (7 * l)
  seq (hop d false) 6 (7 * l)
  hop d true (7 * l + 6)

/-- The rows of the output that the half in direction `r` of the slot of step `j` belongs to. -/
def outOff (d : Dev nD) (r : Bool) (j : ℕ) : Fin 2 → ℕ :=
  match j with
  | 0 => bif r then k0_off2 d else k0_off1 d
  | j + 1 => bif r then k0_off4 d (BitVec.ofNat 32 j) else k0_off3 d (BitVec.ofNat 32 j)

theorem outOff_inb (d : Dev nD) (r : Bool) (j : Fin 8) :
    ∀ a, outOff d r j.val a + S32x1024.size a ≤ S512x1024.size a := by
  obtain ⟨j, hj⟩ := j
  cases j with
  | zero => cases r; exacts [k0_off1_inb d, k0_off2_inb d]
  | succ j =>
    have h : j < 7 := Nat.lt_of_succ_lt_succ hj
    cases r
    exacts [k0_off3_inb d ⟨j, h⟩, k0_off4_inb d ⟨j, h⟩]

/-- Those rows as a rectangle of the output. -/
abbrev outR (d : Dev nD) (r : Bool) (j : Fin 8) : Rect S512x1024 :=
  Rect.unit (s := S512x1024) (outOff d r j.val) S32x1024.size (outOff_inb d r j)

/-- Write out one half of slot `s` as step `j`'s part of the output. -/
def outHalf (d : Dev nD) (r : Bool) (j s : Fin 8) : P F := do
  let a ← Prog.lift (.load (buf true) (halfR r s).toLoadRect (View.loadsAt_vmem h_S1x32x1024))
  let _ ← Prog.lift (.load oM (outR d r j).toLoadRect (View.loadsAt_vmem h_S32x1024))
  Prog.lift (.store oM (outR d r j) (outVal a) Finset.univ
    (View.stores_vmem_bits_univ h_S32x1024 rfl) (.inl rfl))

/-- Write out slot `s`. -/
def outBoth (d : Dev nD) (j s : Fin 8) : P F := do
  outHalf d false j s
  outHalf d true j s

/-- Hop `20 + j` of the final gathering received, the next started unless it is the last, and the
    chunk written out. -/
def gather (d : Dev nD) (last : Bool) (j : ℕ) : P F := do
  recvBoth true (20 + j)
  startUnless last true d (21 + j)
  outBoth d (slot j) (slot (21 + j))

/-- Tell both neighbours that this device has entered, and wait for both. -/
def enter (d : Dev nD) : P F := do
  semSignalWord (⟨k0_dev1 d, k0_dev1_lt d⟩ : Dev nD) barS 1#32
  semSignalWord (⟨k0_dev2 d, k0_dev2_lt d⟩ : Dev nD) barS 1#32
  semWaitWord barS 2#32

/-- The waits for the last eight hops of ring `k` in direction `r`, from hop `n`. -/
def drain (k r : Bool) (n : ℕ) : P F := seq (waitSend k r) 8 n

/-- The whole body on device `d`. -/
def main (d : Dev nD) : P F := do
  enter d
  seq (layer d) 3 0
  outBoth d (slot 0) (slot 21)
  startBoth true d 21
  seq (gather d false) 6 1
  gather d true 7
  drain false false 13
  drain false true 13
  drain true false 20
  drain true true 20

/-- The whole body. -/
def body : P F := do
  let d ← Prog.lift .deviceId
  main d

end Cert.KernelIdeal.Hop
-- ==== Proof.Mem.lean ====
/- The memory the two rings move: halves of slots as owned resources, how a transfer, a load and a
   store act on them, and the shares in which they are lent. -/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.Tactic

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 eq_ix3)

variable {F : FTy → Type} [FloatOps F]

/-- The rounds' state: duties are named by a direction. -/
abbrev UB : Type := URounds (GSem nD τ sig) Bool
/-- The pipeline's state and the rounds'. -/
abbrev UU : Type := UR sig nD τ × UB

local notation "𝕄" => MT nD τ sig ℕ (Elt F) ℕ UU ℕ

/-- The body the launch runs is the program of hops. -/
theorem body_eq : (bodyAt0 (F := F) t0_0) = body := by chain_rfl

/-! ## Halves of a slot's value -/

/-- A slot's value. -/
abbrev V (F : FTy → Type) := Vec F S1x64x1024 .bf16
/-- Half a slot's value. -/
abbrev HV (F : FTy → Type) := Vec F S1x32x1024 .bf16

theorem up_inb (r : Bool) : ∀ a, (![0, row0 r, 0] : Fin 3 → ℕ) a + S1x32x1024.size a ≤ S1x64x1024.size a := by
  revert r; decide

/-- The rows of direction `r` within a slot. -/
abbrev upR (r : Bool) : Rect S1x64x1024 := Rect.unit (s := S1x64x1024) ![0, row0 r, 0] S1x32x1024.size (up_inb r)

/-- The half of a slot's value that direction `r` moves. -/
def hv (r : Bool) (v : V F) : HV F := fun y => v ((upR r).emb y)

/-- A slot's value put together from its halves. -/
def glue (X Y : HV F) : V F := fun z =>
  if h : (z 1).val < 32 then X (ix3 (n0 := 1) (n1 := 32) (n2 := 1024) (z 0) ⟨(z 1).val, h⟩ (z 2))
  else Y (ix3 (n0 := 1) (n1 := 32) (n2 := 1024) (z 0) ⟨(z 1).val - 32, by
    have h2 : (z 1).val < 64 := (z 1).isLt
    omega⟩ (z 2))

theorem hv_glue_false (X Y : HV F) : hv false (glue X Y) = X := by
  funext y
  have h1 : (y 1).val < 32 := (y 1).isLt
  have e : ((upR false).emb y 1).val = (y 1).val := by
    show 0 + 1 * (y 1).val = _; omega
  unfold hv glue
  split
  · refine congrArg X (funext fun a => Fin.ext ?_)
    match a with
    | 0 => show 0 + 1 * (y 0).val = (y 0).val; omega
    | 1 => show 0 + 1 * (y 1).val = (y 1).val; omega
    | 2 => show 0 + 1 * (y 2).val = (y 2).val; omega
  · omega

theorem hv_glue_true (X Y : HV F) : hv true (glue X Y) = Y := by
  funext y
  have h1 : (y 1).val < 32 := (y 1).isLt
  have e : ((upR true).emb y 1).val = 32 + (y 1).val := by
    show 32 + 1 * (y 1).val = _; omega
  unfold hv glue
  split
  · omega
  · refine congrArg Y (funext fun a => Fin.ext ?_)
    match a with
    | 0 => show 0 + 1 * (y 0).val = (y 0).val; omega
    | 1 => show (32 + 1 * (y 1).val) - 32 = (y 1).val; omega
    | 2 => show 0 + 1 * (y 2).val = (y 2).val; omega

/-- Every index of a slot lies in one of its halves. -/
theorem exists_up (z : S1x64x1024.Idx) : ∃ r y, z = (upR r).emb y := by
  have h0 : (z 0).val < 1 := (z 0).isLt
  have h1 : (z 1).val < 64 := (z 1).isLt
  by_cases h : (z 1).val < 32
  · refine ⟨false, ix3 (n0 := 1) (n1 := 32) (n2 := 1024) (z 0) ⟨(z 1).val, h⟩ (z 2), ?_⟩
    funext a
    apply Fin.ext
    match a with
    | 0 => show (z 0).val = 0 + 1 * (z 0).val; omega
    | 1 => show (z 1).val = 0 + 1 * (z 1).val; omega
    | 2 => show (z 2).val = 0 + 1 * (z 2).val; omega
  · refine ⟨true, ix3 (n0 := 1) (n1 := 32) (n2 := 1024) (z 0) ⟨(z 1).val - 32, by omega⟩ (z 2), ?_⟩
    funext a
    apply Fin.ext
    match a with
    | 0 => show (z 0).val = 0 + 1 * (z 0).val; omega
    | 1 => show (z 1).val = 32 + 1 * ((z 1).val - 32); omega
    | 2 => show (z 2).val = 0 + 1 * (z 2).val; omega

/-- A slot's value is determined by its halves. -/
theorem hv_ext {v w : V F} (h : ∀ r, hv r v = hv r w) : v = w := by
  funext z
  obtain ⟨r, y, rfl⟩ := exists_up z
  exact congrFun (h r) y

/-! ## The halves' elements -/

theorem slot_emb_up (r : Bool) (s : Fin 8) (y : S1x32x1024.Idx) :
    (slotR s).emb ((upR r).emb y) = (halfR r s).emb y := by
  funext a
  apply Fin.ext
  match a with
  | 0 => show s.val + 1 * (0 + 1 * (y 0).val) = s.val + 1 * (y 0).val; omega
  | 1 => show 0 + 1 * (row0 r + 1 * (y 1).val) = row0 r + 1 * (y 1).val; omega
  | 2 => show 0 + 1 * (0 + 1 * (y 2).val) = 0 + 1 * (y 2).val; omega

/-- The half as a view, before its leading axis is dropped. -/
abbrev hview (k r : Bool) (s : Fin 8) := (buf k).access (halfR r s)
/-- The slot as a view. -/
abbrev sview (k : Bool) (s : Fin 8) := (buf k).access (slotR s)

theorem half_set (k r : Bool) (s : Fin 8) : (half k r s).view.set = (hview k r s).set :=
  Memref.set_view_squeeze _ _

theorem sview_emb_up (k r : Bool) (s : Fin 8) (y : S1x32x1024.Idx) :
    (sview k s).emb ((upR r).emb y) = (hview k r s).emb y :=
  congrArg (buf k).view.emb (slot_emb_up r s y)

theorem mem_halfR {r : Bool} {s : Fin 8} {i : S8x64x1024.Idx} :
    i ∈ (halfR r s).set ↔ (i 0).val = s.val ∧ (row0 r ≤ (i 1).val ∧ (i 1).val < row0 r + 32) := by
  rw [Rect.mem_set_unit]
  have h2 : (i 2).val < 1024 := (i 2).isLt
  constructor
  · intro h
    have a0 : s.val ≤ (i 0).val ∧ (i 0).val < s.val + 1 := h 0
    have a1 : row0 r ≤ (i 1).val ∧ (i 1).val < row0 r + 32 := h 1
    exact ⟨by omega, a1⟩
  · rintro ⟨h0, h1⟩ a
    match a with
    | 0 => show s.val ≤ (i 0).val ∧ (i 0).val < s.val + 1; omega
    | 1 => exact h1
    | 2 => show 0 ≤ (i 2).val ∧ (i 2).val < 0 + 1024; omega

theorem halfR_disjoint {r r' : Bool} {s s' : Fin 8} (h : (r, s) ≠ (r', s')) :
    Disjoint (halfR r s).set (halfR r' s').set := by
  rw [Finset.disjoint_left]
  intro i hi hj
  rw [mem_halfR] at hi hj
  obtain ⟨e, a, b⟩ := hi
  obtain ⟨e', a', b'⟩ := hj
  have hs : s = s' := Fin.ext (e.symm.trans e')
  subst hs
  cases r <;> cases r' <;> simp_all [row0] <;> omega

theorem hview_set (k r : Bool) (s : Fin 8) : (hview k r s).set = (halfR r s).set.map (buf k).view.emb :=
  View.set_slice _ _

theorem hview_disjoint (k : Bool) {r r' : Bool} {s s' : Fin 8} (h : (r, s) ≠ (r', s')) :
    Disjoint (hview k r s).set (hview k r' s').set := by
  rw [hview_set, hview_set]
  exact (Finset.disjoint_map _).mpr (halfR_disjoint h)

theorem sview_set (k : Bool) (s : Fin 8) : (sview k s).set = (hview k false s).set ∪ (hview k true s).set := by
  ext i
  simp only [Finset.mem_union, View.set, Finset.mem_map, Finset.mem_univ, true_and]
  constructor
  · rintro ⟨z, rfl⟩
    obtain ⟨r, y, rfl⟩ := exists_up z
    cases r
    · exact .inl ⟨y, (sview_emb_up k false s y).symm⟩
    · exact .inr ⟨y, (sview_emb_up k true s y).symm⟩
  · rintro (⟨y, rfl⟩ | ⟨y, rfl⟩)
    · exact ⟨_, sview_emb_up k false s y⟩
    · exact ⟨_, sview_emb_up k true s y⟩

theorem buf_set (k : Bool) : (buf k).view.set = Finset.univ := by
  cases k <;> exact View.set_whole _

/-- All the halves of all the slots make the buffer. -/
theorem hview_cover (k : Bool) :
    (Finset.univ : Finset (Bool × Fin 8)).biUnion (fun p => (hview k p.1 p.2).set) = (buf k).view.set := by
  ext i
  simp only [Finset.mem_biUnion, Finset.mem_univ, true_and]
  constructor
  · rintro ⟨p, hp⟩
    exact View.set_slice_subset _ _ hp
  · intro hi
    obtain ⟨j, -, rfl⟩ := Finset.mem_map.mp hi
    have h1 : (j 1).val < 64 := (j 1).isLt
    refine ⟨(decide (32 ≤ (j 1).val), j 0), ?_⟩
    rw [hview_set]
    refine Finset.mem_map_of_mem _ (mem_halfR.mpr ⟨rfl, ?_⟩)
    show row0 (decide (32 ≤ (j 1).val)) ≤ (j 1).val ∧ (j 1).val < row0 (decide (32 ≤ (j 1).val)) + 32
    generalize (j 1).val = x at h1
    by_cases h : 32 ≤ x
    · rw [decide_eq_true h]; show 32 ≤ x ∧ x < 32 + 32; omega
    · rw [decide_eq_false h]; show 0 ≤ x ∧ x < 0 + 32; omega

/-! ## Owned halves -/

/-- Device `c` owns the half in direction `r` of slot `s` of ring `k`'s buffer, at share `q`, holding `X`. -/
def PT (k r : Bool) (s : Fin 8) (c : Dev nD) (q : PosShare TreeShare) (X : HV F) : sProp 𝕄 :=
  iprop(∃ f : Buf (Elt F) ((half k r s).view.loc (c : Thread nD τ)), ⌜(hview k r s).read (Elt F) f = X⌝
    ∗ ((half k r s).view.loc (c : Thread nD τ) ↦[(half k r s).view.set]{q} f))

/-- The same, at any contents. -/
def AP (k r : Bool) (s : Fin 8) (c : Dev nD) (q : PosShare TreeShare) : sProp 𝕄 := iprop(∃ X, PT k r s c q X)

instance PT_storable (k r : Bool) (s : Fin 8) (c : Dev nD) (q : PosShare TreeShare) (X : HV F) :
    BI.Storable (upEmb : UEmb _ 𝕄) (PT k r s c q X) := by unfold PT; infer_instance

instance AP_storable (k r : Bool) (s : Fin 8) (c : Dev nD) (q : PosShare TreeShare) :
    BI.Storable (upEmb : UEmb _ 𝕄) (AP (F := F) k r s c q) := by unfold AP; infer_instance

theorem PT_AP (k r : Bool) (s : Fin 8) (c : Dev nD) (q : PosShare TreeShare) (X : HV F) :
    PT k r s c q X ⊢ (AP k r s c q : sProp 𝕄) := by
  unfold AP; iintro H; iexists X; iexact H

theorem AP_intro (k r : Bool) (s : Fin 8) (c : Dev nD) (q : PosShare TreeShare)
    (f : Buf (Elt F) ((half k r s).view.loc (c : Thread nD τ))) :
    ((half k r s).view.loc (c : Thread nD τ) ↦[(half k r s).view.set]{q} f) ⊢ (AP k r s c q : sProp 𝕄) := by
  unfold AP PT; iintro H; iexists _; iexists f; isplitr; · ipureintro; rfl
  iexact H

theorem AP_pts (k r : Bool) (s : Fin 8) (c : Dev nD) (q : PosShare TreeShare) :
    AP k r s c q ⊢ (iprop(∃ f : Buf (Elt F) ((half k r s).view.loc (c : Thread nD τ)),
      ((half k r s).view.loc (c : Thread nD τ) ↦[(half k r s).view.set]{q} f)) : sProp 𝕄) := by
  unfold AP PT
  iintro ⟨%X, %f, -, H⟩
  iexists f; iexact H

/-- The half share that a transfer reads through, and the one kept beside it. -/
abbrev qL : PosShare TreeShare := (fullShare : PosShare TreeShare).left
abbrev qR : PosShare TreeShare := (fullShare : PosShare TreeShare).right

theorem PT_split (k r : Bool) (s : Fin 8) (c : Dev nD) (X : HV F) :
    PT k r s c fullShare X ⊢ (iprop(PT k r s c qL X ∗ PT k r s c qR X) : sProp 𝕄) := by
  unfold PT
  iintro ⟨%f, %hf, H⟩
  ihave H := (pointsTo_share (PosShare.mem_left_op_right fullShare)).1 $$ H
  icases H with ⟨HL, HR⟩
  isplitl [HL]
  · iexists f; isplitr; · ipureintro; exact hf
    iexact HL
  · iexists f; isplitr; · ipureintro; exact hf
    iexact HR

theorem AP_join (k r : Bool) (s : Fin 8) (c : Dev nD) :
    iprop(AP k r s c qL ∗ AP k r s c qR) ⊢ (AP (F := F) k r s c fullShare : sProp 𝕄) := by
  have key : ∀ f g : Buf (Elt F) ((half k r s).view.loc (c : Thread nD τ)),
      iprop(((half k r s).view.loc (c : Thread nD τ) ↦[(half k r s).view.set]{qL} f)
        ∗ ((half k r s).view.loc (c : Thread nD τ) ↦[(half k r s).view.set]{qR} g))
      ⊢ ((half k r s).view.loc (c : Thread nD τ) ↦[(half k r s).view.set]{fullShare} f : sProp 𝕄) := by
    intro f g
    iintro ⟨HL, HR⟩
    ihave %hag := pointsTo_agree $$ [HL HR]
    · isplitl [HL]; · iexact HL
      iexact HR
    have e := pointsTo_congr (Ix := ℕ) (Name := ℕ) (U := UU) (Lvl := ℕ) (q := qR)
      (fun i hi => (hag i (Finset.mem_inter.mpr ⟨hi, hi⟩)).1)
    ihave HR := (Entails.of_eq e.symm) $$ HR
    iapply (pointsTo_share (PosShare.mem_left_op_right fullShare)).2
    isplitl [HL]; · iexact HL
    iexact HR
  unfold AP PT
  iintro ⟨⟨%X, %f, -, HL⟩, ⟨%Y, %g, -, HR⟩⟩
  iexists (hview k r s).read (Elt F) f
  iexists f
  isplitr; · ipureintro; rfl
  iapply key f g
  isplitl [HL]; · iexact HL
  iexact HR

/-! ## A landing -/

/-- What a transfer of a half writes, read back, is what was read at its source. -/
theorem landed_read (k r : Bool) (s s' : Fin 8) (fs fd : (buf k).view.ty.Contents (Elt F)) :
    (hview k r s').read (Elt F)
        ((half k r s').view.write (Elt F) fd ((half k r s).view.read (Elt F) fs) Finset.univ)
      = (hview k r s).read (Elt F) fs := by
  have hw := View.read_write_univ (v := (half k r s').view) fd ((half k r s).view.read (Elt F) fs)
  funext y
  have := congrFun hw ((Shape.reshapeEquiv (squeezes_S1x32x1024_S32x1024).numel_eq).symm y)
  have e1 : ∀ (t : Fin 8) (f : (buf k).view.ty.Contents (Elt F)) (x : S32x1024.Idx), (half k r t).view.read (Elt F) f x
      = (hview k r t).read (Elt F) f (Shape.reshapeEquiv (squeezes_S1x32x1024_S32x1024).numel_eq x) := fun _ _ _ => rfl
  rw [e1, e1, Equiv.apply_symm_apply] at this
  exact this

theorem PT_landed (k r : Bool) (s s' : Fin 8) (c : Dev nD)
    (fs fd : (buf k).view.ty.Contents (Elt F)) (X : HV F) (h : (hview k r s).read (Elt F) fs = X) :
    ((half k r s').view.loc (c : Thread nD τ) ↦[(half k r s').view.set]{fullShare}
        ((half k r s').view.write (Elt F) fd ((half k r s).view.read (Elt F) fs) Finset.univ))
      ⊢ (PT k r s' c fullShare X : sProp 𝕄) := by
  unfold PT; iintro H; iexists _; isplitr
  · ipureintro; exact (landed_read k r s s' fs fd).trans h
  · iexact H

/-! ## Both halves of a slot -/

/-- Both halves of a slot, together holding `v`. -/
def PS (k : Bool) (s : Fin 8) (c : Dev nD) (q : PosShare TreeShare) (v : V F) : sProp 𝕄 :=
  iprop(PT k false s c q (hv false v) ∗ PT k true s c q (hv true v))

theorem hv_read (k r : Bool) (s : Fin 8) (f : (buf k).view.ty.Contents (Elt F)) :
    hv r ((sview k s).read (Elt F) f) = (hview k r s).read (Elt F) f := by
  funext y
  show (buf k).view.read (Elt F) f ((slotR s).emb ((upR r).emb y)) = (buf k).view.read (Elt F) f ((halfR r s).emb y)
  rw [slot_emb_up]

theorem PS_elim (k : Bool) (s : Fin 8) (c : Dev nD) (q : PosShare TreeShare) (v : V F) :
    PS k s c q v ⊢ (iprop(∃ f : Buf (Elt F) ((sview k s).loc (c : Thread nD τ)), ⌜(sview k s).read (Elt F) f = v⌝
      ∗ ((sview k s).loc (c : Thread nD τ) ↦[(sview k s).set]{q} f)) : sProp 𝕄) := by
  have hd := hview_disjoint k (r := false) (r' := true) (s := s) (s' := s) (by simp)
  have hj : ∀ f g : Buf (Elt F) ((sview k s).loc (c : Thread nD τ)),
      iprop(((sview k s).loc (c : Thread nD τ) ↦[(hview k false s).set]{q} f)
        ∗ ((sview k s).loc (c : Thread nD τ) ↦[(hview k true s).set]{q} g))
      ⊢ ((sview k s).loc (c : Thread nD τ) ↦[(hview k false s).set ∪ (hview k true s).set]{q}
          ((hview k true s).set.piecewise g f) : sProp 𝕄) := fun f g => pointsTo_join hd
  unfold PS PT
  rw [sview_set, half_set, half_set]
  iintro ⟨⟨%f, %hf, H⟩, ⟨%g, %hg, H'⟩⟩
  ihave H := (hj f g) $$ [H H']
  · isplitl [H]; · iexact H
    iexact H'
  iexists _
  isplitr
  rotate_left
  · iexact H
  · ipureintro
    apply hv_ext
    intro r
    rw [hv_read]
    cases r
    · refine Eq.trans (View.read_congr fun i hi => ?_) hf
      exact Finset.piecewise_eq_of_notMem _ _ _ (Finset.disjoint_left.mp hd hi)
    · refine Eq.trans (View.read_congr fun i hi => ?_) hg
      exact Finset.piecewise_eq_of_mem _ _ _ hi

theorem PS_intro (k : Bool) (s : Fin 8) (c : Dev nD) (q : PosShare TreeShare)
    (f : Buf (Elt F) ((sview k s).loc (c : Thread nD τ))) :
    ((sview k s).loc (c : Thread nD τ) ↦[(sview k s).set]{q} f)
      ⊢ (PS k s c q ((sview k s).read (Elt F) f) : sProp 𝕄) := by
  have hd := hview_disjoint k (r := false) (r' := true) (s := s) (s' := s) (by simp)
  have hj : ((sview k s).loc (c : Thread nD τ) ↦[(hview k false s).set ∪ (hview k true s).set]{q} f)
      ⊢ (iprop(((sview k s).loc (c : Thread nD τ) ↦[(hview k false s).set]{q} f)
        ∗ ((sview k s).loc (c : Thread nD τ) ↦[(hview k true s).set]{q} f)) : sProp 𝕄) := (pointsTo_union hd).1
  unfold PS PT
  rw [hv_read, hv_read, sview_set, half_set, half_set]
  iintro H
  ihave H := hj $$ H
  icases H with ⟨H, H'⟩
  isplitl [H]
  · iexists f; isplitr; · ipureintro; rfl
    iexact H
  · iexists f; isplitr; · ipureintro; rfl
    iexact H'

/-- Two halves with their own contents are a slot's value put together. -/
theorem PS_of_halves (k : Bool) (s : Fin 8) (c : Dev nD) (q : PosShare TreeShare) (X Y : HV F) :
    iprop(PT k false s c q X ∗ PT k true s c q Y) = (PS k s c q (glue X Y) : sProp 𝕄) := by
  unfold PS; rw [hv_glue_false, hv_glue_true]

/-- Both halves of a slot, at any contents. -/
def AS (k : Bool) (s : Fin 8) (c : Dev nD) (q : PosShare TreeShare) : sProp 𝕄 :=
  iprop(AP (F := F) k false s c q ∗ AP k true s c q)

theorem PS_AS (k : Bool) (s : Fin 8) (c : Dev nD) (q : PosShare TreeShare) (v : V F) :
    PS k s c q v ⊢ (AS k s c q : sProp 𝕄) := by
  unfold PS AS
  iintro ⟨H, H'⟩
  isplitl [H]
  · iapply PT_AP _ _ _ _ _ _; iexact H
  · iapply PT_AP _ _ _ _ _ _; iexact H'

theorem AS_PS (k : Bool) (s : Fin 8) (c : Dev nD) (q : PosShare TreeShare) :
    AS k s c q ⊢ (iprop(∃ v : V F, PS k s c q v) : sProp 𝕄) := by
  unfold AS AP
  iintro ⟨⟨%X, H⟩, ⟨%Y, H'⟩⟩
  iexists glue X Y
  rw [← PS_of_halves]
  isplitl [H]; · iexact H
  iexact H'

theorem PS_split (k : Bool) (s : Fin 8) (c : Dev nD) (v : V F) :
    PS k s c fullShare v ⊢ (iprop(PS k s c qL v ∗ PS k s c qR v) : sProp 𝕄) := by
  unfold PS
  iintro ⟨H, H'⟩
  ihave H := PT_split _ _ _ _ _ $$ H
  ihave H' := PT_split _ _ _ _ _ $$ H'
  icases H with ⟨H1, H2⟩
  icases H' with ⟨H3, H4⟩
  isplitl [H1 H3]
  · isplitl [H1]; · iexact H1
    iexact H3
  · isplitl [H2]; · iexact H2
    iexact H4

/-! ## The whole buffer -/

/-- A whole buffer is its sixteen halves. -/
theorem whole_split (k : Bool) (c : Dev nD) (f : Buf (Elt F) ((buf k).view.loc (c : Thread nD τ))) :
    ((buf k).view.loc (c : Thread nD τ) ↦[(buf k).view.set]{fullShare} f)
      ⊢ (bigSep (Finset.univ : Finset (Bool × Fin 8)) (fun p => AP (F := F) k p.1 p.2 c fullShare) : sProp 𝕄) := by
  rw [← hview_cover k, pointsTo_biUnion _ _ (fun p _ p' _ h => hview_disjoint k h)]
  refine BI.bigSep_mono fun p _ => ?_
  have h := AP_intro (F := F) k p.1 p.2 c fullShare f
  rw [half_set] at h
  exact h

/-- Sixteen halves are a whole buffer, at some contents. -/
theorem whole_join (k : Bool) (c : Dev nD) :
    (bigSep (Finset.univ : Finset (Bool × Fin 8)) (fun p => AP (F := F) k p.1 p.2 c fullShare) : sProp 𝕄)
      ⊢ (iprop(∃ f : Buf (Elt F) ((buf k).view.loc (c : Thread nD τ)),
          ((buf k).view.loc (c : Thread nD τ) ↦[(buf k).view.set]{fullShare} f)) : sProp 𝕄) := by
  have h1 : (bigSep (Finset.univ : Finset (Bool × Fin 8)) (fun p => AP (F := F) k p.1 p.2 c fullShare) : sProp 𝕄)
      ⊢ bigSep (Finset.univ : Finset (Bool × Fin 8)) (fun p => iprop(∃ f : Buf (Elt F) ((buf k).view.loc (c : Thread nD τ)),
          ((buf k).view.loc (c : Thread nD τ) ↦[(hview k p.1 p.2).set]{fullShare} f))) := by
    refine BI.bigSep_mono fun p _ => ?_
    have h := AP_pts (F := F) k p.1 p.2 c fullShare
    rw [half_set] at h
    exact h
  refine h1.trans ?_
  have : Nonempty (Buf (Elt F) ((buf k).view.loc (c : Thread nD τ))) := ⟨fun _ => Classical.arbitrary _⟩
  refine (BI.bigSep_exists_pi _ _).trans ?_
  iintro ⟨%fs, H⟩
  ihave H := (pointsTo_biUnion_join Finset.univ (fun p : Bool × Fin 8 => (hview k p.1 p.2).set) fs
    (fun _ => Classical.arbitrary _) (fun p _ p' _ h => hview_disjoint k h)) $$ H
  icases H with ⟨%g, -, H⟩
  iexists g
  rw [hview_cover k]
  iexact H

end Cert.KernelIdeal.Hop
-- ==== Proof.Proto.lean ====
/- The protocol of the two rings: which cell belongs to which hop, what each wait hands over, and
   what each device owes. -/
module

public import proofs.«01_k».proof.Proof.Mem

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The ring of devices -/

/-- The device `j` steps from `c` in direction `r`. -/
def dnI (r : Bool) (j : ℕ) (c : Dev nD) : Dev nD :=
  ⟨(c.val + (bif r then 7 * j else j)) % 8, Nat.mod_lt _ (by decide)⟩

/-- The neighbour in direction `r`. -/
abbrev dn (r : Bool) (c : Dev nD) : Dev nD := dnI r 1 c

theorem dnI_dn (r : Bool) (j : ℕ) (c : Dev nD) : dnI r j (dn r c) = dnI r (j + 1) c := by
  apply Fin.ext
  cases r <;> simp only [dnI, cond_true, cond_false] <;> omega

theorem dnI_eight (r : Bool) (c : Dev nD) : dnI r 8 c = c := by
  have hc : c.val < 8 := c.isLt
  apply Fin.ext
  cases r <;> simp only [dnI, cond_true, cond_false] <;> omega

theorem dn_not_dn (r : Bool) (c : Dev nD) : dn (!r) (dn r c) = c := by
  have hc : c.val < 8 := c.isLt
  apply Fin.ext
  cases r <;> simp only [dn, dnI, cond_true, cond_false, Bool.not_true, Bool.not_false] <;> omega

theorem dn_dn_not (r : Bool) (c : Dev nD) : dn r (dn (!r) c) = c := by
  have h := dn_not_dn (!r) c
  rwa [Bool.not_not] at h

/-- The neighbours as an exchange of the devices. -/
def ring (r : Bool) : Dev nD ≃ Dev nD := ⟨dn r, dn (!r), dn_not_dn r, dn_dn_not r⟩

theorem peer_eq (r : Bool) (c : Dev nD) : peer r c = dn r c := by
  apply Fin.ext
  cases r
  · show k0_dev3 c = _; rw [k0_dev3_eq]; rfl
  · show k0_dev4 c = _; rw [k0_dev4_eq]; rfl

theorem dev1_eq (c : Dev nD) : (⟨k0_dev1 c, k0_dev1_lt c⟩ : Dev nD) = dn true c := Fin.ext (k0_dev1_eq c)
theorem dev2_eq (c : Dev nD) : (⟨k0_dev2 c, k0_dev2_lt c⟩ : Dev nD) = dn false c := Fin.ext (k0_dev2_eq c)

/-! ## The cells -/

/-- What a semaphore is for. -/
inductive Kind
  | bar
  | send (k r : Bool) (s : Fin 8)
  | recv (k r : Bool) (s : Fin 8)
  | weight (b : Bool)
  | other
deriving DecidableEq

/-- The use of each semaphore. -/
def decode : SemLoc sig → Kind
  | .reg _ => .bar
  | .dma v =>
    if v.val < 2 then .other
    else if 66 ≤ v.val then .weight (decide (v.val = 67))
    else bif decide ((v.val - 2) / 8 % 2 = 1)
      then .recv (decide (4 ≤ (v.val - 2) / 8)) (decide ((v.val - 2) / 8 / 2 % 2 = 1)) (slot (v.val - 2))
      else .send (decide (4 ≤ (v.val - 2) / 8)) (decide ((v.val - 2) / 8 / 2 % 2 = 1)) (slot (v.val - 2))

/-- The semaphore of weight `b`. -/
abbrev wSem (b : Bool) : DmaSem sig := bif b then wSem1 else wSem0

theorem decode_send (k r : Bool) (s : Fin 8) : decode (.dma (sendSem k r s)) = .send k r s := by
  revert k r s; decide
theorem decode_recv (k r : Bool) (s : Fin 8) : decode (.dma (recvSem k r s)) = .recv k r s := by
  revert k r s; decide
theorem decode_w (b : Bool) : decode (.dma (wSem b)) = .weight b := by
  revert b; decide

/-- The protocol's semaphores, numbered. -/
def csem (i : Fin 67) : SemLoc sig :=
  if h : i.val < 66 then .dma ⟨i.val + 2, (by omega : i.val + 2 < 68)⟩ else .reg barS

theorem csem_send (k r : Bool) (s : Fin 8) : ∃ i, csem i = .dma (sendSem k r s) := by
  revert k r s; decide
theorem csem_recv (k r : Bool) (s : Fin 8) : ∃ i, csem i = .dma (recvSem k r s) := by
  revert k r s; decide
theorem csem_w (b : Bool) : ∃ i, csem i = .dma (wSem b) := by
  revert b; decide
theorem csem_bar : csem 66 = .reg barS := rfl

abbrev kcell (ci : Dev nD × Fin 67) : GSem nD τ sig := ((ci.1 : Thread nD τ), csem ci.2)

abbrev barCell (c : Dev nD) : GSem nD τ sig := ((c : Thread nD τ), .reg barS)
/-- The cell on which device `c` learns that its hop `n` has left. -/
abbrev sendCell (k r : Bool) (n : ℕ) (c : Dev nD) : GSem nD τ sig := ((c : Thread nD τ), .dma (sendSem k r (slot n)))
/-- The cell on which device `c` learns that hop `n` has arrived. -/
abbrev recvCell (k r : Bool) (n : ℕ) (c : Dev nD) : GSem nD τ sig := ((c : Thread nD τ), .dma (recvSem k r (slot (n + 1))))
abbrev wCell (b : Bool) (c : Dev nD) : GSem nD τ sig := ((c : Thread nD τ), .dma (wSem b))

theorem slot_add (n : ℕ) : slot (n + 8) = slot n := Fin.ext (by show (n + 8) % 8 = n % 8; omega)

theorem slot_val (s : Fin 8) : slot s.val = s := Fin.ext (Nat.mod_eq_of_lt s.isLt)

/-- The number of hops of ring `k`. -/
def H (k : Bool) : ℕ := bif k then 28 else 21

/-- The hop that arrives on the receive semaphore of slot `s` in round `R`. -/
def recvHop (s : Fin 8) (R : ℕ) : ℕ := 8 * R + (s.val + 7) % 8

theorem recvHop_slot (n : ℕ) : recvHop (slot (n + 1)) (n / 8) = n := by
  show 8 * (n / 8) + ((n + 1) % 8 + 7) % 8 = n; omega

theorem sendHop_slot (n : ℕ) : 8 * (n / 8) + (slot n).val = n := by
  show 8 * (n / 8) + n % 8 = n; omega

/-- The credit of a transfer of half a slot. -/
def N : ℕ := (half false false 0).view.dmaCredit
theorem N_pos : 0 < N := View.dmaCredit_pos _ (by decide)
theorem credit_half (k r : Bool) (s : Fin 8) : (half k r s).view.dmaCredit = N := by cases k <;> rfl
/-- The credit of a transfer of a weight. -/
def NW (b : Bool) : ℕ := bif b then woM.view.dmaCredit else wiM.view.dmaCredit
theorem NW_pos (b : Bool) : 0 < NW b := by cases b <;> exact View.dmaCredit_pos _ (by decide)

/-! ## The values -/

variable (m : (ℓ : Loc nD τ sig) → Buf (Elt F) ℓ)

/-- Device `c`'s block of the input. -/
def xv (c : Dev nD) : Vec F S64x1024 .f32 :=
  (win0_0.blk (0 : Fin 1)).view.read (Elt F) (m ((c : Thread nD τ).loc main_arg0))

/-- Device `c`'s block of layer `l`'s first weight. -/
def WI (l : ℕ) (c : Dev nD) : Vec F S1024x2048 .f32 :=
  match l with
  | 0 => m ((c : Thread nD τ).loc main_arg1)
  | 1 => m ((c : Thread nD τ).loc main_arg2)
  | _ => m ((c : Thread nD τ).loc main_arg3)

/-- Device `c`'s block of layer `l`'s second weight. -/
def WO (l : ℕ) (c : Dev nD) : Vec F S2048x1024 .f32 :=
  match l with
  | 0 => m ((c : Thread nD τ).loc main_arg4)
  | 1 => m ((c : Thread nD τ).loc main_arg5)
  | _ => m ((c : Thread nD τ).loc main_arg6)

/-- What device `c` receives when every device sends `p`. -/
def rcv (p : Dev nD → V F) (c : Dev nD) : V F := glue (hv false (p (dn true c))) (hv true (p (dn false c)))

/-- Device `c`'s contribution in layer `l`. -/
def con (l : ℕ) (c : Dev nD) (a : V F) : FVec F S64x1024 .f32 := contrib a (WI m l c) (WO m l c)

/-- The activation and the accumulator after hop `n`, when every device sent `p`. -/
def arr (n : ℕ) (p : Dev nD → V F × V F) (c : Dev nD) : V F × V F :=
  (rcv (fun d => (p d).1) c,
    addVal (con m (n / 7) c (rcv (fun d => (p d).1) c)) (rcv (fun d => (p d).2) c))

/-- A layer's first activation and accumulator. -/
def fresh (l : ℕ) (c : Dev nD) (a : V F) : V F × V F := (a, headVal (con m l c a))

/-- What device `c` sends at hop `n` while the layers run. -/
def sent : ℕ → Dev nD → V F × V F
  | 0 => fun c => fresh m 0 c (inVal (xv m c))
  | n + 1 => fun c => bif decide ((n + 1) % 7 = 0)
      then fresh m ((n + 1) / 7) c (nextVal (arr m n (sent n) c).2)
      else arr m n (sent n) c

/-- The chunk that device `c` sends at hop `21 + j` of the gathering. -/
def gath : ℕ → Dev nD → V F
  | 0 => fun c => (arr m 20 (sent m 20) c).2
  | j + 1 => rcv (gath j)

/-- What device `c` sends at hop `n` of ring `k`. -/
def sv (k : Bool) (n : ℕ) (c : Dev nD) : V F :=
  bif k then (if n < 21 then (sent m n c).2 else gath m (n - 21) c) else (sent m n c).1

/-! ## What the waits hand over -/

/-- The share of an activation's half that travels with the accumulator's permission for hop `e`. -/
def side (k r : Bool) (L e : ℕ) (d : Dev nD) : sProp 𝕄 :=
  if k = true ∧ ¬ e / 7 ≤ L ∧ e < 21 then AP (F := F) false r (slot (e + 1)) d qR else iprop(emp)

instance side_storable (k r : Bool) (L e : ℕ) (d : Dev nD) :
    BI.Storable (upEmb : UEmb _ 𝕄) (side (F := F) k r L e d) := by
  unfold side; split <;> infer_instance

/-- Permission for hop `e` into device `d`'s slot: the half it writes, as far as layer `L` has been
    left behind, and the mark that the cell it arrives on has reached the hop's round. -/
def Ent (k r : Bool) (L e : ℕ) (d : Dev nD) : sProp 𝕄 :=
  iprop(AP k r (slot (e + 1)) d (if k = true ∨ e / 7 ≤ L then fullShare else qL)
    ∗ side (F := F) k r L e d
    ∗ reached ER (recvCell k r e d) (e / 8))

instance Ent_storable (k r : Bool) (L e : ℕ) (d : Dev nD) :
    BI.Storable (upEmb : UEmb _ 𝕄) (Ent (F := F) k r L e d) := by
  unfold Ent; infer_instance

/-- A permission that travels with the hops. -/
def ent (k r : Bool) (L n : ℕ) (c : Dev nD) (e : ℕ) : sProp 𝕄 :=
  if 7 ≤ e ∧ e < H k then Ent (F := F) k r L e (dnI r (e - n + 1) c) else iprop(emp)

instance ent_storable (k r : Bool) (L n : ℕ) (c : Dev nD) (e : ℕ) :
    BI.Storable (upEmb : UEmb _ 𝕄) (ent (F := F) k r L n c e) := by
  unfold ent
  split <;> infer_instance

/-- The permissions for hops `n` to `n + 6`, with the device that starts hop `n`. -/
def bag (k r : Bool) (L n : ℕ) (c : Dev nD) : sProp 𝕄 := bigSep (Finset.Ico n (n + 7)) (ent (F := F) k r L n c)

instance bag_storable (k r : Bool) (L n : ℕ) (c : Dev nD) :
    BI.Storable (upEmb : UEmb _ 𝕄) (bag (F := F) k r L n c) := by
  unfold bag; infer_instance

/-- The permissions for hops `n` to `6`, which a device has of its neighbour from the beginning. -/
def init (k r : Bool) (n : ℕ) (c : Dev nD) : sProp 𝕄 :=
  bigSep (Finset.Ico n 7) (fun e => Ent (F := F) k r 0 e (dn r c))

instance init_storable (k r : Bool) (n : ℕ) (c : Dev nD) :
    BI.Storable (upEmb : UEmb _ 𝕄) (init (F := F) k r n c) := by
  unfold init; infer_instance

/-- What the neighbour in direction `r` hands over on entering. -/
def barPay (r : Bool) (c : Dev nD) : sProp 𝕄 := iprop(init (F := F) false r 0 c ∗ init (F := F) true r 0 c)

/-- What the arrival of hop `n` hands over. -/
def recvPay (k r : Bool) (n : ℕ) (c : Dev nD) : sProp 𝕄 :=
  iprop(PT k r (slot (n + 1)) c fullShare (hv r (sv m k n (dn (!r) c))) ∗ bag (F := F) k r (n / 7) (n + 1) c)

/-- What the departure of hop `n` hands back. -/
def sendPay (k r : Bool) (n : ℕ) (c : Dev nD) : sProp 𝕄 :=
  if n + 7 < H k then iprop(emp) else AP (F := F) k r (slot n) c qL

/-- What the arrival of layer `l`'s weight hands over. -/
def wPay (b : Bool) (l : ℕ) (c : Dev nD) : sProp 𝕄 :=
  bif b then iprop(owns (c : Thread nD τ) woM fullShare (WO m l c) ∗ owns (c : Thread nD τ) (woutM l) fullShare (WO m l c))
  else iprop(owns (c : Thread nD τ) wiM fullShare (WI m l c) ∗ owns (c : Thread nD τ) (winM l) fullShare (WI m l c))

/-- The duties, amounts and payloads of every cell's rounds. -/
def Rd : Rounds.Schedule (GSem nD τ sig) Bool 𝕄 where
  duties g R := match decode g.2 with
    | .bar => if R = 0 then Finset.univ else ∅
    | .send k r s => if 8 * R + s.val < H k then {false} else ∅
    | .recv k r s => if recvHop s R < H k then {false} else ∅
    | .weight b => if R < 3 then {false} else ∅
    | .other => ∅
  amount g _ _ := match decode g.2 with
    | .bar => 1
    | .send _ _ _ => N
    | .recv _ _ _ => N
    | .weight b => NW b
    | .other => 1
  payload g R d := match decode g.2 with
    | .bar => barPay d g.1.1
    | .send k r s => sendPay k r (8 * R + s.val) g.1.1
    | .recv k r s => recvPay m k r (recvHop s R) g.1.1
    | .weight b => wPay m b R g.1.1
    | .other => iprop(emp)
  amount_pos g _ _ _ := by
    split
    · exact Nat.one_pos
    · exact N_pos
    · exact N_pos
    · exact NW_pos _
    · exact Nat.one_pos

instance Rd_payload_storable (g : GSem nD τ sig) (R : ℕ) (d : Bool) :
    BI.Storable (upEmb : UEmb _ 𝕄) ((Rd m).payload g R d) := by
  show BI.Storable upEmb (match decode g.2 with
    | .bar => barPay d g.1.1
    | .send k r s => sendPay k r (8 * R + s.val) g.1.1
    | .recv k r s => recvPay m k r (recvHop s R) g.1.1
    | .weight b => wPay m b R g.1.1
    | .other => iprop(emp))
  split
  · unfold barPay; infer_instance
  · unfold sendPay; split <;> infer_instance
  · unfold recvPay; infer_instance
  · rename_i b _; unfold wPay; cases b <;> simp only [cond_true, cond_false] <;> infer_instance
  · infer_instance

section Sched
variable (k r : Bool) (n : ℕ) (c : Dev nD)

theorem duties_bar : (Rd m).duties (barCell c) 0 = Finset.univ := rfl
theorem duties_bar_later : ∀ R, 1 ≤ R → (Rd m).duties (barCell c) R = ∅ := fun R hR => if_neg (by omega)

theorem duties_send_at (s : Fin 8) (R : ℕ) : (Rd m).duties ((c : Thread nD τ), .dma (sendSem k r s)) R
    = if 8 * R + s.val < H k then {false} else ∅ := by
  dsimp only [Rd]; rw [decode_send]
theorem duties_recv_at (s : Fin 8) (R : ℕ) : (Rd m).duties ((c : Thread nD τ), .dma (recvSem k r s)) R
    = if recvHop s R < H k then {false} else ∅ := by
  dsimp only [Rd]; rw [decode_recv]
theorem duties_w (b : Bool) (R : ℕ) : (Rd m).duties (wCell b c) R = if R < 3 then {false} else ∅ := by
  dsimp only [Rd]; rw [decode_w]

theorem duties_send (h : n < H k) : (Rd m).duties (sendCell k r n c) (n / 8) = {false} := by
  rw [duties_send_at, sendHop_slot, if_pos h]
theorem duties_recv (h : n < H k) : (Rd m).duties (recvCell k r n c) (n / 8) = {false} := by
  rw [duties_recv_at, recvHop_slot, if_pos h]

theorem amount_bar (d : Bool) (R : ℕ) : (Rd m).amount (barCell c) R d = 1 := rfl
theorem amount_send (d : Bool) (R : ℕ) : (Rd m).amount (sendCell k r n c) R d = N := by
  dsimp only [Rd]; rw [decode_send]
theorem amount_recv (d : Bool) (R : ℕ) : (Rd m).amount (recvCell k r n c) R d = N := by
  dsimp only [Rd]; rw [decode_recv]
theorem amount_w (b d : Bool) (R : ℕ) : (Rd m).amount (wCell b c) R d = NW b := by
  dsimp only [Rd]; rw [decode_w]

theorem payload_bar (d : Bool) (R : ℕ) : (Rd m).payload (barCell c) R d = barPay d c := rfl
theorem payload_send (d : Bool) : (Rd m).payload (sendCell k r n c) (n / 8) d = sendPay k r n c := by
  dsimp only [Rd]; rw [decode_send]; dsimp only; rw [sendHop_slot]
theorem payload_recv (d : Bool) : (Rd m).payload (recvCell k r n c) (n / 8) d = recvPay m k r n c := by
  dsimp only [Rd]; rw [decode_recv]; dsimp only; rw [recvHop_slot]
theorem payload_w (b d : Bool) (R : ℕ) : (Rd m).payload (wCell b c) R d = wPay m b R c := by
  dsimp only [Rd]; rw [decode_w]

theorem expect_bar : (Rd m).expect (barCell c) 0 = 2 := by
  unfold Schedule.expect Schedule.amountOf
  rw [duties_bar, Finset.sum_congr rfl fun d _ => amount_bar m c d 0, Finset.sum_const, Finset.card_univ, Fintype.card_bool,
    smul_eq_mul]
theorem expect_send (h : n < H k) : (Rd m).expect (sendCell k r n c) (n / 8) = N := by
  unfold Schedule.expect Schedule.amountOf; rw [duties_send m k r n c h, Finset.sum_singleton, amount_send]
theorem expect_recv (h : n < H k) : (Rd m).expect (recvCell k r n c) (n / 8) = N := by
  unfold Schedule.expect Schedule.amountOf; rw [duties_recv m k r n c h, Finset.sum_singleton, amount_recv]
theorem expect_w (b : Bool) (R : ℕ) (h : R < 3) : (Rd m).expect (wCell b c) R = NW b := by
  unfold Schedule.expect Schedule.amountOf; rw [duties_w, if_pos h, Finset.sum_singleton, amount_w]

theorem rest_bar : bigSep ((Rd m).duties (barCell c) 0 \ ∅) (fun d => (Rd m).payload (barCell c) 0 d)
    = iprop(barPay false c ∗ barPay true c) := by
  rw [Finset.sdiff_empty, duties_bar, bigSep_univ_eq_bigSepL [false, true] (by decide) (by decide), bigSepL_cons_cons,
    bigSepL_singleton, payload_bar, payload_bar]
  rfl
theorem rest_send (h : n < H k) : bigSep ((Rd m).duties (sendCell k r n c) (n / 8) \ ∅)
    (fun d => (Rd m).payload (sendCell k r n c) (n / 8) d) = sendPay k r n c := by
  rw [Finset.sdiff_empty, duties_send m k r n c h, bigSep_singleton, payload_send]
theorem rest_recv (h : n < H k) : bigSep ((Rd m).duties (recvCell k r n c) (n / 8) \ ∅)
    (fun d => (Rd m).payload (recvCell k r n c) (n / 8) d) = recvPay m k r n c := by
  rw [Finset.sdiff_empty, duties_recv m k r n c h, bigSep_singleton, payload_recv]
theorem rest_w (b : Bool) (R : ℕ) (h : R < 3) : bigSep ((Rd m).duties (wCell b c) R \ ∅)
    (fun d => (Rd m).payload (wCell b c) R d) = wPay m b R c := by
  rw [Finset.sdiff_empty, duties_w, if_pos h, bigSep_singleton, payload_w]

/-- A send cell past its last hop has no more duties. -/
theorem duties_send_end (h : H k ≤ n) : ∀ R, n / 8 ≤ R → (Rd m).duties (sendCell k r n c) R = ∅ := fun R hR => by
  rw [duties_send_at, if_neg]
  have := sendHop_slot n
  omega
/-- A receive cell past its last hop has no more duties. -/
theorem duties_recv_end (h : H k ≤ n) : ∀ R, n / 8 ≤ R → (Rd m).duties (recvCell k r n c) R = ∅ := fun R hR => by
  rw [duties_recv_at, if_neg]
  have h1 := recvHop_slot n
  unfold recvHop at h1 ⊢
  omega
theorem duties_w_end (b : Bool) : ∀ R, 3 ≤ R → (Rd m).duties (wCell b c) R = ∅ := fun R hR => by
  rw [duties_w, if_neg (by omega)]

end Sched

/-! ## What each device owes, and the levels -/

/-- The credit device `c` still owes its neighbour in direction `r` on ring `k`, from hop `n` on. -/
def ob (k r : Bool) (n : ℕ) (c : Dev nD) : CellTallies nD τ sig ℕ :=
  ∑ i ∈ Finset.Ico n (H k), tallyAt (recvCell k r i (dn r c)) i N

/-- The same in both directions. -/
def ob2 (k : Bool) (n : ℕ) (c : Dev nD) : CellTallies nD τ sig ℕ := ob k false n c + ob k true n c

theorem ob_step (k r : Bool) {n : ℕ} (c : Dev nD) (h : n < H k) :
    ob k r n c = ob k r (n + 1) c + tallyAt (recvCell k r n (dn r c)) n N := by
  unfold ob
  rw [show Finset.Ico n (H k) = insert n (Finset.Ico (n + 1) (H k)) by
      ext x; simp only [Finset.mem_Ico, Finset.mem_insert]; omega,
    Finset.sum_insert (by rw [Finset.mem_Ico]; omega), add_comm]

theorem ob_end (k r : Bool) {n : ℕ} (c : Dev nD) (h : H k ≤ n) : ob k r n c = 0 := by
  unfold ob; rw [Finset.Ico_eq_empty_of_le h, Finset.sum_empty]

/-- What device `c` owes once it has entered. -/
def O₁ (c : Dev nD) : CellTallies nD τ sig ℕ := ob2 false 0 c + ob2 true 0 c
/-- What device `c` owes at the launch. -/
def O₀ (c : Dev nD) : CellTallies nD τ sig ℕ :=
  (O₁ c + tallyAt (barCell (dn false c)) 0 1) + tallyAt (barCell (dn true c)) 0 1

/-- The indices at which a cell has a level. -/
def L (g : GSem nD τ sig) : Finset ℕ := if g.1.2 = .tc then Finset.range 28 else ∅
/-- The levels: hop by hop, in each hop the activations before the accumulators. -/
def lv (g : GSem nD τ sig) (u : ℕ) : ℕ := match decode g.2 with
  | .recv k _ _ => 2 * u + 2 + k.toNat
  | .bar => 1
  | _ => 0

theorem L_tc (c : Dev nD) (sm : SemLoc sig) : L ((c : Thread nD τ), sm) = Finset.range 28 := if_pos rfl
theorem L_of_ne (g : GSem nD τ sig) (h : g.1.2 ≠ .tc) : L g = ∅ := if_neg h

theorem lv_recv (k r : Bool) (s : Fin 8) (c : Dev nD) (u : ℕ) :
    lv ((c : Thread nD τ), .dma (recvSem k r s)) u = 2 * u + 2 + k.toNat := by
  unfold lv; dsimp only; rw [decode_recv]
theorem lv_send (k r : Bool) (s : Fin 8) (c : Dev nD) (u : ℕ) :
    lv ((c : Thread nD τ), .dma (sendSem k r s)) u = 0 := by
  unfold lv; dsimp only; rw [decode_send]
theorem lv_w (b : Bool) (c : Dev nD) (u : ℕ) : lv (wCell b c) u = 0 := by
  unfold lv; dsimp only; rw [decode_w]
theorem lv_bar (c : Dev nD) (u : ℕ) : lv (barCell c) u = 1 := rfl

/-- Everything in `O` is owed at a level above `v`. -/
def Above (v : ℕ) (O : CellTallies nD τ sig ℕ) : Prop :=
  ∀ g u, 0 < O g u → g.1.2 = .tc ∧ u < 28 ∧ v < lv g u

theorem Above.zero (v : ℕ) : Above v 0 := fun g u h => absurd h (Nat.lt_irrefl 0)

theorem Above.add {v : ℕ} {O O' : CellTallies nD τ sig ℕ} (h : Above v O) (h' : Above v O') : Above v (O + O') := by
  intro g u hg
  rw [Pi.add_apply, Finsupp.add_apply] at hg
  by_cases h0 : 0 < O g u
  · exact h g u h0
  · exact h' g u (by omega)

theorem Above.mono {v v' : ℕ} {O : CellTallies nD τ sig ℕ} (h : Above v O) (hv : v' ≤ v) : Above v' O :=
  fun g u hg => ⟨(h g u hg).1, (h g u hg).2.1, lt_of_le_of_lt hv (h g u hg).2.2⟩

theorem Above.tally {v : ℕ} {c : Dev nD} {sm : SemLoc sig} {u x : ℕ} (hu : u < 28)
    (hv : v < lv ((c : Thread nD τ), sm) u) : Above v (tallyAt ((c : Thread nD τ), sm) u x) := by
  intro g w hg
  rw [tallyAt_apply] at hg
  by_cases h : g = ((c : Thread nD τ), sm) ∧ w = u
  · obtain ⟨rfl, rfl⟩ := h; exact ⟨rfl, hu, hv⟩
  · rw [if_neg h] at hg; exact absurd hg (Nat.lt_irrefl 0)

theorem H_le (k : Bool) : H k ≤ 28 := by cases k <;> decide

theorem Above.ob {v : ℕ} (k r : Bool) {n : ℕ} (c : Dev nD) (hv : v < 2 * n + 2 + k.toNat) : Above v (ob k r n c) := by
  unfold Hop.ob
  have : ∀ S : Finset ℕ, (∀ i ∈ S, n ≤ i ∧ i < 28) → Above v (∑ i ∈ S, tallyAt (recvCell k r i (dn r c)) i N) := by
    intro S
    induction S using Finset.induction_on with
    | empty => intro _; rw [Finset.sum_empty]; exact Above.zero v
    | insert a S ha ih =>
      intro hS
      rw [Finset.sum_insert ha]
      have h1 := hS a (Finset.mem_insert_self a S)
      refine Above.add (Above.tally h1.2 ?_) (ih fun i hi => hS i (Finset.mem_insert_of_mem hi))
      rw [lv_recv]; omega
  refine this _ fun i hi => ?_
  rw [Finset.mem_Ico] at hi
  exact ⟨hi.1, lt_of_lt_of_le hi.2 (H_le k)⟩

theorem Above.ob2 {v : ℕ} (k : Bool) {n : ℕ} (c : Dev nD) (hv : v < 2 * n + 2 + k.toNat) : Above v (ob2 k n c) :=
  Above.add (Above.ob k false c hv) (Above.ob k true c hv)

theorem Above.O₁ (c : Dev nD) : Above 1 (O₁ c) :=
  Above.add (Above.ob2 false c (by simp)) (Above.ob2 true c (by simp))

theorem Above.O₀ (c : Dev nD) : Above 0 (O₀ c) :=
  Above.add (Above.add ((Above.O₁ c).mono (by decide)) (Above.tally (by decide) (by rw [lv_bar]; decide)))
    (Above.tally (by decide) (by rw [lv_bar]; decide))

/-- A device may wait below everything it owes. -/
theorem mayWait (c : Dev nD) (sm : SemLoc sig) (u : ℕ) (O : CellTallies nD τ sig ℕ) {v : ℕ} (hu : u < 28)
    (h : Above v O) (hv : lv ((c : Thread nD τ), sm) u ≤ v) :
    (levAts L lv : sProp 𝕄) ⊢ MayWait (c : Thread nD τ) sm u O :=
  MayOwe.of_cut (L := L) (lev := lv) v
    (fun p hp => by rw [Finset.mem_singleton.mp hp, L_tc]; exact Finset.mem_range.mpr hu)
    (fun g w hg => by
      obtain ⟨h1, h2, -⟩ := h g w hg
      unfold L; rw [if_pos h1]; exact Finset.mem_range.mpr h2)
    (fun p hp => by rw [Finset.mem_singleton.mp hp]; exact hv)
    (fun g w hg => (h g w hg).2.2)

end Cert.KernelIdeal.Hop
-- ==== Proof.Steps.lean ====
/- The waits and the transfers of one hop, as steps of the logic. -/
module

public import proofs.«01_k».proof.Proof.Proto
public import Idealize.SL.BI.BigOpNat

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- Device `c`'s program `p` runs to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)

/-! ## What every step may use -/

/-- Every cell's invariant, and that every cell has reached round 0. -/
def records : sProp 𝕄 :=
  bigSep (Finset.univ : Finset (Dev nD × Fin 67)) (fun ci => iprop((∃ κ, cellInv ER (Rd m) κ (kcell ci)) ∗ reached ER (kcell ci) 0))

instance records_persistent : BI.Persistent (records m) := by unfold records; infer_instance

/-- The records and the levels. -/
def ctx : sProp 𝕄 := iprop(records m ∗ levAts L lv)

instance ctx_persistent : BI.Persistent (ctx m) := by unfold ctx; infer_instance

theorem ctx_levs : ctx m ⊢ (levAts L lv : sProp 𝕄) := by unfold ctx; iintro ⟨-, H⟩; iexact H

theorem records_at (ci : Dev nD × Fin 67) :
    records m ⊢ (iprop((∃ κ, cellInv ER (Rd m) κ (kcell ci)) ∗ reached ER (kcell ci) 0) : sProp 𝕄) := by
  unfold records; exact BI.bigSep_elim (Finset.mem_univ ci)

theorem ctx_cell (c : Dev nD) (sm : SemLoc sig) (h : ∃ i, csem i = sm) :
    ctx m ⊢ (iprop((∃ κ, cellInv ER (Rd m) κ ((c : Thread nD τ), sm)) ∗ reached ER ((c : Thread nD τ), sm) 0) : sProp 𝕄) := by
  obtain ⟨i, rfl⟩ := h
  unfold ctx
  iintro ⟨H, -⟩
  iapply records_at m (c, i)
  iexact H

theorem ctx_inv (c : Dev nD) (sm : SemLoc sig) (h : ∃ i, csem i = sm) :
    ctx m ⊢ (iprop(∃ κ, cellInv ER (Rd m) κ ((c : Thread nD τ), sm)) : sProp 𝕄) := by
  iintro H
  ihave H := ctx_cell m c sm h $$ H
  icases H with ⟨H, -⟩
  iexact H

/-- What device `c` owes, whatever it has waited for. -/
def OW (c : Dev nD) (O : CellTallies nD τ sig ℕ) : sProp 𝕄 := iprop(∃ W, owes (c : Thread nD τ) O W)

/-- The owner's position at round `R` of a cell, no part of the round consumed. -/
def pos (g : GSem nD τ sig) (R : ℕ) : sProp 𝕄 := iprop(atPos ER g R ∅ 0 ∗ reached ER g R)

/-- The receiving side of ring `k` in direction `r`, when `p` hops have been received. -/
def RW (k r : Bool) (p : ℕ) (c : Dev nD) : sProp 𝕄 :=
  iprop(bigSep (Finset.Ico p (p + 8)) (fun i => pos (F := F) (recvCell k r i c) (i / 8))
    ∗ bigSep (Finset.Ico p (H k)) (fun i => cred (tallyAt (recvCell k r i c) i N)))

/-- The two duties that hop `i` pays. -/
def toks (k r : Bool) (i : ℕ) (c : Dev nD) : sProp 𝕄 :=
  iprop(dutyTok ER (sendCell k r i c) (i / 8) false ∗ dutyTok ER (recvCell k r i (dn r c)) (i / 8) false)

/-- The sending side, when `n` hops have been started and `w` of them waited for. -/
def SW (k r : Bool) (n w : ℕ) (c : Dev nD) : sProp 𝕄 :=
  iprop(bigSep (Finset.Ico w (w + 8)) (fun i => pos (F := F) (sendCell k r i c) (i / 8))
    ∗ bigSep (Finset.Ico w n) (fun i => cred (tallyAt (sendCell k r i c) i N))
    ∗ bigSep (Finset.Ico n (H k)) (fun i => toks (F := F) k r i c))

theorem recvCell_add (k r : Bool) (n : ℕ) (c : Dev nD) : recvCell k r (n + 8) c = recvCell k r n c := by
  unfold recvCell; rw [show n + 8 + 1 = (n + 1) + 8 by omega, slot_add]
theorem sendCell_add (k r : Bool) (n : ℕ) (c : Dev nD) : sendCell k r (n + 8) c = sendCell k r n c := by
  unfold sendCell; rw [slot_add]

theorem pos_recv_next (k r : Bool) (n : ℕ) (c : Dev nD) :
    pos (F := F) (recvCell k r (n + 8) c) ((n + 8) / 8) = pos (recvCell k r n c) (n / 8 + 1) := by
  rw [recvCell_add, Nat.add_div_right n (by decide)]
theorem pos_send_next (k r : Bool) (n : ℕ) (c : Dev nD) :
    pos (F := F) (sendCell k r (n + 8) c) ((n + 8) / 8) = pos (sendCell k r n c) (n / 8 + 1) := by
  rw [sendCell_add, Nat.add_div_right n (by decide)]

/-- The receiving side but for hop `p`. -/
def RWr (k r : Bool) (p : ℕ) (c : Dev nD) : sProp 𝕄 :=
  iprop(bigSep (Finset.Ico (p + 1) (p + 8)) (fun i => pos (F := F) (recvCell k r i c) (i / 8))
    ∗ bigSep (Finset.Ico (p + 1) (H k)) (fun i => cred (tallyAt (recvCell k r i c) i N)))

theorem RW_take (k r : Bool) {p : ℕ} (c : Dev nD) (h : p < H k) :
    RW k r p c ⊢ (iprop(pos (recvCell k r p c) (p / 8) ∗ cred (tallyAt (recvCell k r p c) p N) ∗ RWr (F := F) k r p c) : sProp 𝕄) := by
  unfold RW RWr
  rw [bigSep_Ico_succ_bot (show p < p + 8 by omega), bigSep_Ico_succ_bot h]
  iintro ⟨⟨H1, H2⟩, ⟨H3, H4⟩⟩
  isplitl [H1]; · iexact H1
  isplitl [H3]; · iexact H3
  isplitl [H2]; · iexact H2
  iexact H4

theorem RW_put (k r : Bool) (p : ℕ) (c : Dev nD) :
    iprop(pos (recvCell k r p c) (p / 8 + 1) ∗ RWr (F := F) k r p c) ⊢ (RW k r (p + 1) c : sProp 𝕄) := by
  unfold RW RWr
  rw [show p + 1 + 8 = (p + 8) + 1 by omega, bigSep_Ico_succ_top (show p + 1 ≤ p + 8 by omega), pos_recv_next]
  iintro ⟨H1, ⟨H2, H3⟩⟩
  isplitl [H1 H2]
  · isplitl [H1]; · iexact H1
    iexact H2
  · iexact H3

/-- The receiving side shows that the cell of a hop in its window has reached the hop's round. -/
theorem RW_reached (k r : Bool) (p i : ℕ) (c : Dev nD) (h : p ≤ i) (h' : i < p + 8) :
    RW k r p c ⊢ (reached ER (recvCell k r i c) (i / 8) : sProp 𝕄) := by
  unfold RW
  have hb : (bigSep (Finset.Ico p (p + 8)) (fun i => pos (F := F) (recvCell k r i c) (i / 8)) : sProp 𝕄)
      ⊢ pos (F := F) (recvCell k r i c) (i / 8) := BI.bigSep_elim (Finset.mem_Ico.mpr ⟨h, h'⟩)
  iintro ⟨H, -⟩
  ihave H := hb $$ H
  unfold pos
  icases H with ⟨-, H⟩
  iexact H

/-- The sending side but for the wait for hop `w`. -/
def SWr (k r : Bool) (n w : ℕ) (c : Dev nD) : sProp 𝕄 :=
  iprop(bigSep (Finset.Ico (w + 1) (w + 8)) (fun i => pos (F := F) (sendCell k r i c) (i / 8))
    ∗ bigSep (Finset.Ico (w + 1) n) (fun i => cred (tallyAt (sendCell k r i c) i N))
    ∗ bigSep (Finset.Ico n (H k)) (fun i => toks (F := F) k r i c))

theorem SW_take (k r : Bool) {n w : ℕ} (c : Dev nD) (h : w < n) :
    SW k r n w c ⊢ (iprop(pos (sendCell k r w c) (w / 8) ∗ cred (tallyAt (sendCell k r w c) w N) ∗ SWr (F := F) k r n w c) : sProp 𝕄) := by
  unfold SW SWr
  rw [bigSep_Ico_succ_bot (show w < w + 8 by omega), bigSep_Ico_succ_bot h]
  iintro ⟨⟨H1, H2⟩, ⟨H3, H4⟩, H5⟩
  isplitl [H1]; · iexact H1
  isplitl [H3]; · iexact H3
  isplitl [H2]; · iexact H2
  isplitl [H4]; · iexact H4
  iexact H5

theorem SW_put (k r : Bool) (n w : ℕ) (c : Dev nD) :
    iprop(pos (sendCell k r w c) (w / 8 + 1) ∗ SWr (F := F) k r n w c) ⊢ (SW k r n (w + 1) c : sProp 𝕄) := by
  unfold SW SWr
  rw [show w + 1 + 8 = (w + 8) + 1 by omega, bigSep_Ico_succ_top (show w + 1 ≤ w + 8 by omega), pos_send_next]
  iintro ⟨H1, ⟨H2, H3⟩⟩
  isplitl [H1 H2]
  · isplitl [H1]; · iexact H1
    iexact H2
  · iexact H3

theorem SW_reached (k r : Bool) (n w i : ℕ) (c : Dev nD) (h : w ≤ i) (h' : i < w + 8) :
    SW k r n w c ⊢ (reached ER (sendCell k r i c) (i / 8) : sProp 𝕄) := by
  unfold SW
  have hb : (bigSep (Finset.Ico w (w + 8)) (fun i => pos (F := F) (sendCell k r i c) (i / 8)) : sProp 𝕄)
      ⊢ pos (F := F) (sendCell k r i c) (i / 8) := BI.bigSep_elim (Finset.mem_Ico.mpr ⟨h, h'⟩)
  iintro ⟨H, -⟩
  ihave H := hb $$ H
  unfold pos
  icases H with ⟨-, H⟩
  iexact H

/-- Starting hop `n` takes its duties and gives the credit to wait for its departure. -/
theorem SW_start (k r : Bool) {n w : ℕ} (c : Dev nD) (h : n < H k) (hw : w ≤ n) :
    SW k r n w c ⊢ (iprop(toks k r n c ∗ (cred (tallyAt (sendCell k r n c) n N) -∗ SW (F := F) k r (n + 1) w c)) : sProp 𝕄) := by
  unfold SW
  rw [bigSep_Ico_succ_bot h, bigSep_Ico_succ_top hw]
  iintro ⟨H1, H2, H3, H4⟩
  isplitl [H3]; · iexact H3
  iintro H5
  isplitl [H1]; · iexact H1
  isplitl [H5 H2]
  · isplitl [H5]; · iexact H5
    iexact H2
  · iexact H4

/-! ## The waits -/

theorem wp_waitRecv (k r : Bool) (n : ℕ) (c : Dev nD) (O : CellTallies nD τ sig ℕ) (Q : PUnit → sProp 𝕄) (h : n < H k)
    (hO : Above (2 * n + 2 + k.toNat) O) :
    iprop(ctx m ∗ RW k r n c ∗ OW c O)
      ⊢ iprop(((recvPay m k r n c ∗ RW k r (n + 1) c ∗ OW c O) -∗ Q ⟨⟩) -∗ WP c (waitRecv k r n) Q) := by
  unfold waitRecv Prog.lift WP
  iintro ⟨#Hc, HR, HO⟩ Hk
  ihave HR := RW_take k r c h $$ HR
  unfold pos OW
  icases HR with ⟨⟨Hat, -⟩, Hcr, HR⟩
  icases HO with ⟨%W, HO⟩
  ihave Hi := ctx_inv m c (.dma (recvSem k r (slot (n + 1)))) (csem_recv k r _) $$ Hc
  icases Hi with ⟨%κ, #Hi⟩
  iapply (Rounds.wp_wait_rest_token 𝒱₀ ER (Rd m) (c : Thread nD τ) none (κ := κ)
      (wpE_waitDma2_eq 𝒱₀ (c : Thread nD τ) none Set.univ) (Set.mem_univ _) n (O := O) (W := W) (R := n / 8) (m := 0) (T := ∅)
      (by rw [Nat.zero_add, expect_recv m k r n c h]; exact credit_half k r _)) $$ [Hcr HO Hat]
  · isplitr; · iexact Hi
    isplitl [Hcr]
    · ihave Hcr := (Entails.of_eq (by rw [credit_half k r (slot (n + 1))] :
        (cred (tallyAt (recvCell k r n c) n N) : sProp 𝕄)
          = cred (tallyAt (recvCell k r n c) n (half k r (slot (n + 1))).view.dmaCredit))) $$ Hcr
      iexact Hcr
    isplitl [HO]; · iexact HO
    isplitr
    · iapply (mayWait c _ n O (lt_of_lt_of_le h (H_le k)) hO (le_of_eq (lv_recv k r _ c n)))
      iapply ctx_levs m
      iexact Hc
    iexact Hat
  iintro ⟨HO, Hat, Hr, Hpay⟩
  ihave Hpay := (Entails.of_eq (rest_recv m k r n c h)) $$ Hpay
  rw [wp_ret]; imodintro
  iapply Hk
  isplitl [Hpay]; · iexact Hpay
  isplitl [HR Hat Hr]
  · iapply RW_put k r n c
    unfold pos
    isplitl [Hat Hr]
    · isplitl [Hat]; · iexact Hat
      iexact Hr
    · iexact HR
  · iexists _; iexact HO

theorem wp_waitSend (k r : Bool) (n w : ℕ) (c : Dev nD) (O : CellTallies nD τ sig ℕ) (Q : PUnit → sProp 𝕄) (h : w < H k) (hn : w < n)
    (hO : Above 0 O) :
    iprop(ctx m ∗ SW k r n w c ∗ OW c O)
      ⊢ iprop(((sendPay k r w c ∗ SW k r n (w + 1) c ∗ OW c O) -∗ Q ⟨⟩) -∗ WP c (waitSend k r w) Q) := by
  unfold waitSend Prog.lift WP
  iintro ⟨#Hc, HR, HO⟩ Hk
  ihave HR := SW_take k r c hn $$ HR
  unfold pos OW
  icases HR with ⟨⟨Hat, -⟩, Hcr, HR⟩
  icases HO with ⟨%W, HO⟩
  ihave Hi := ctx_inv m c (.dma (sendSem k r (slot w))) (csem_send k r _) $$ Hc
  icases Hi with ⟨%κ, #Hi⟩
  iapply (Rounds.wp_wait_rest_token 𝒱₀ ER (Rd m) (c : Thread nD τ) none (κ := κ)
      (wpE_waitDma2_eq 𝒱₀ (c : Thread nD τ) none Set.univ) (Set.mem_univ _) w (O := O) (W := W) (R := w / 8) (m := 0) (T := ∅)
      (by rw [Nat.zero_add, expect_send m k r w c h]; exact credit_half k r _)) $$ [Hcr HO Hat]
  · isplitr; · iexact Hi
    isplitl [Hcr]
    · ihave Hcr := (Entails.of_eq (by rw [credit_half k r (slot w)] :
        (cred (tallyAt (sendCell k r w c) w N) : sProp 𝕄)
          = cred (tallyAt (sendCell k r w c) w (half k r (slot w)).view.dmaCredit))) $$ Hcr
      iexact Hcr
    isplitl [HO]; · iexact HO
    isplitr
    · iapply (mayWait c _ w O (lt_of_lt_of_le h (H_le k)) hO (le_of_eq (lv_send k r _ c w)))
      iapply ctx_levs m
      iexact Hc
    iexact Hat
  iintro ⟨HO, Hat, Hr, Hpay⟩
  ihave Hpay := (Entails.of_eq (rest_send m k r w c h)) $$ Hpay
  rw [wp_ret]; imodintro
  iapply Hk
  isplitl [Hpay]; · iexact Hpay
  isplitl [HR Hat Hr]
  · iapply SW_put k r n w c
    unfold pos
    isplitl [Hat Hr]
    · isplitl [Hat]; · iexact Hat
      iexact Hr
    · iexact HR
  · iexists _; iexact HO

end Cert.KernelIdeal.Hop
-- ==== Proof.Send.lean ====
/- Starting a hop: the transfer, the permission it uses and the permissions that travel with it. -/
module

public import proofs.«01_k».proof.Proof.Steps

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The permissions -/

/-- The travelling permissions but for hop `n`'s, as the device that receives hop `n` holds them. -/
def bagR (k r : Bool) (L n : ℕ) (c : Dev nD) : sProp 𝕄 :=
  bigSep (Finset.Ico (n + 1) (n + 7)) (ent (F := F) k r L (n + 1) (dn r c))

instance bagR_storable (k r : Bool) (L n : ℕ) (c : Dev nD) :
    BI.Storable (upEmb : UEmb _ 𝕄) (bagR (F := F) k r L n c) := by
  unfold bagR; infer_instance

theorem ent_shift (k r : Bool) (L n e : ℕ) (c : Dev nD) (h : n + 1 ≤ e) :
    ent (F := F) k r L n c e = ent k r L (n + 1) (dn r c) e := by
  unfold ent
  rw [dnI_dn, show e - (n + 1) + 1 + 1 = e - n + 1 by omega]

theorem bag_take (k r : Bool) (L n : ℕ) (c : Dev nD) :
    bag (F := F) k r L n c = iprop(ent k r L n c n ∗ bagR k r L n c) := by
  unfold bag bagR
  rw [bigSep_Ico_succ_bot (show n < n + 7 by omega)]
  congr 1
  exact bigSep_congr fun e he => ent_shift k r L n e c (Finset.mem_Ico.mp he).1

theorem bag_put (k r : Bool) (L n : ℕ) (c : Dev nD) :
    bag (F := F) k r L (n + 1) (dn r c) = iprop(ent k r L (n + 1) (dn r c) (n + 7) ∗ bagR k r L n c) := by
  unfold bag bagR
  rw [show n + 1 + 7 = (n + 7) + 1 by omega, bigSep_Ico_succ_top (show n + 1 ≤ n + 7 by omega)]

/-- The permission for hop `n`, out of those held. -/
theorem perm_take (k r : Bool) (n : ℕ) (c : Dev nD) (h : n < H k) :
    iprop(init (F := F) k r n c ∗ bag k r (n / 7) n c)
      ⊢ (iprop(Ent k r (n / 7) n (dn r c) ∗ init k r (n + 1) c ∗ bagR k r (n / 7) n c) : sProp 𝕄) := by
  rw [bag_take]
  by_cases h7 : n < 7
  · unfold init
    rw [bigSep_Ico_succ_bot h7, show n / 7 = 0 by omega]
    iintro ⟨⟨H1, H2⟩, -, H3⟩
    isplitl [H1]; · iexact H1
    isplitl [H2]; · iexact H2
    iexact H3
  · unfold init ent
    rw [Finset.Ico_eq_empty_of_le (show 7 ≤ n by omega), Finset.Ico_eq_empty_of_le (show 7 ≤ n + 1 by omega), bigSep_empty,
      if_pos ⟨by omega, h⟩, show n - n + 1 = 1 by omega]
    iintro ⟨H1, H2, H3⟩
    isplitl [H2]; · iexact H2
    isplitl [H1]; · iexact H1
    iexact H3

/-- The share of its source that a transfer takes with it. -/
def lent (k : Bool) (n : ℕ) : PosShare TreeShare := if k = true ∧ n < 21 then fullShare else qL

/-- The share of the activation that goes with the accumulator's hop `n`. -/
def exA (k r : Bool) (n : ℕ) (c : Dev nD) : sProp 𝕄 :=
  if k = true ∧ n + 7 < 21 then AP (F := F) false r (slot n) c qR else iprop(emp)

instance exA_storable (k r : Bool) (n : ℕ) (c : Dev nD) :
    BI.Storable (upEmb : UEmb _ 𝕄) (exA (F := F) k r n c) := by
  unfold exA; split <;> infer_instance

theorem side_eq (k r : Bool) (n : ℕ) (c : Dev nD) : side (F := F) k r (n / 7) (n + 7) c = exA k r n c := by
  unfold side exA
  rw [show n + 7 + 1 = n + 8 by omega, slot_add]
  congr 1
  have : ¬ (n + 7) / 7 ≤ n / 7 := by omega
  simp only [this, not_false_eq_true, true_and]

theorem lent_eq (k : Bool) {n : ℕ} (h : n + 7 < H k) :
    (if k = true ∨ (n + 7) / 7 ≤ n / 7 then fullShare else qL) = lent k n := by
  unfold lent
  have : ¬ (n + 7) / 7 ≤ n / 7 := by omega
  cases k
  · simp [this]
  · have h' : n < 21 := by have : n + 7 < 28 := h; omega
    simp [h']

/-- The permission a device makes for hop `n + 7` out of what its own hop `n` used. -/
theorem Ent_make (k r : Bool) (n : ℕ) (c : Dev nD) (h : n + 7 < H k) :
    iprop(AP (F := F) k r (slot n) c (lent k n) ∗ exA k r n c ∗ reached ER (recvCell k r (n + 7) c) ((n + 7) / 8))
      ⊢ (ent k r (n / 7) (n + 1) (dn r c) (n + 7) : sProp 𝕄) := by
  unfold ent Ent
  rw [if_pos ⟨by omega, h⟩, dnI_dn, show n + 7 - (n + 1) + 1 + 1 = 8 by omega, dnI_eight, side_eq, lent_eq k h,
    show n + 7 + 1 = n + 8 by omega, slot_add]

theorem ent_end (k r : Bool) (n : ℕ) (c : Dev nD) (h : ¬ n + 7 < H k) :
    ent (F := F) k r (n / 7) (n + 1) (dn r c) (n + 7) = iprop(emp) := by
  unfold ent
  rw [if_neg fun h' => h h'.2]

theorem Ent_use (k r : Bool) (n : ℕ) (d : Dev nD) :
    Ent (F := F) k r (n / 7) n d ⊢ (iprop(AP k r (slot (n + 1)) d fullShare ∗ reached ER (recvCell k r n d) (n / 8)) : sProp 𝕄) := by
  unfold Ent
  rw [if_pos (.inr (le_refl _))]
  iintro ⟨H1, -, H2⟩
  isplitl [H1]; · iexact H1
  iexact H2

/-! ## The transfer -/

/-- What a device needs to start hop `n`, beside the half it sends: the half's own slot's share that
    goes along, and the permissions. -/
def Pm (k r : Bool) (n : ℕ) (c : Dev nD) : sProp 𝕄 :=
  iprop(exA (F := F) k r n c ∗ init k r n c ∗ bag k r (n / 7) n c)

theorem wp_startTo (k r : Bool) (n w : ℕ) (c p : Dev nD) (hp : p = dn r c) (O O₀ : CellTallies nD τ sig ℕ) (Q : PUnit → sProp 𝕄)
    (h : n < H k) (hw : w ≤ n) (hw' : n < w + 8)
    (hO : O₀ = O + tallyAt (recvCell k r n (dn r c)) n N)
    {hsrc : (half k r (slot n)).view.WordExact} {hdst : (half k r (slot (n + 1))).view.WordExact}
    {hsc : (half k r (slot (n + 1)) : Memref sig (Dev.tc p : Thread nD τ).2.kind .vmem S32x1024 .bf16).view.ref.isScScratch = false}
    {hsem : DmaTarget.Typed .vmem (.dma (recvSem k r (slot (n + 1))))
      (.remote (Dev.tc p : Thread nD τ) (half k r (slot (n + 1))) (.dma (sendSem k r (slot n))) hsc)} :
    iprop(ctx m ∗ PT k r (slot n) c (lent k n) (hv r (sv m k n c)) ∗ Pm k r n c ∗ RW k r n c ∗ SW k r n w c ∗ OW c O₀)
      ⊢ iprop(((init k r (n + 1) c ∗ RW k r n c ∗ SW k r (n + 1) w c ∗ OW c O) -∗ Q ⟨⟩)
        -∗ WP c (.op (.enqueueDma (half k r (slot n))
            (.remote (Dev.tc p : Thread nD τ) (half k r (slot (n + 1))) (.dma (sendSem k r (slot n))) hsc)
            (.dma (recvSem k r (slot (n + 1)))) hsrc hdst hsem) Prog.ret) Q) := by
  subst hp
  unfold Pm PT OW WP
  iintro ⟨#Hc, ⟨%fs, %hfs, Hsrc⟩, ⟨Hex, Hin, Hbag⟩, HR, HS, ⟨%W, HO⟩⟩ Hk
  ihave Hp := perm_take k r n c h $$ [Hin Hbag]
  · isplitl [Hin]; · iexact Hin
    iexact Hbag
  icases Hp with ⟨HE, Hin, Hbag⟩
  ihave HE := Ent_use k r n (dn r c) $$ HE
  icases HE with ⟨Hd, #Hrd⟩
  ihave Hd := AP_pts k r (slot (n + 1)) (dn r c) fullShare $$ Hd
  icases Hd with ⟨%fd, Hd⟩
  ihave #Hrs := SW_reached k r n w n c hw hw' $$ HS
  ihave #Hrn := RW_reached k r n (n + 7) c (by omega) (by omega) $$ HR
  ihave HS := SW_start k r c h hw $$ HS
  unfold toks
  icases HS with ⟨⟨Ht1, Ht2⟩, HS⟩
  ihave Hi1 := ctx_inv m c (.dma (sendSem k r (slot n))) (csem_send k r _) $$ Hc
  icases Hi1 with ⟨%κ₁, #Hi1⟩
  ihave Hi2 := ctx_inv m (dn r c) (.dma (recvSem k r (slot (n + 1)))) (csem_recv k r _) $$ Hc
  icases Hi2 with ⟨%κ₂, #Hi2⟩
  have hd₁ : false ∈ (Rd m).duties (sendCell k r n c) (n / 8) := by
    rw [duties_send m k r n c h]; exact Finset.mem_singleton_self _
  have hd₂ : false ∈ (Rd m).duties (recvCell k r n (dn r c)) (n / 8) := by
    rw [duties_recv m k r n (dn r c) h]; exact Finset.mem_singleton_self _
  have hN : (half k r (slot (n + 1))).view.amount (.dma (recvSem k r (slot (n + 1)))) = N := credit_half k r _
  by_cases h7 : n + 7 < H k
  · iapply (Rounds.wp_send_landing_pointsTo_with 𝒱₀ ER (Rd m) (c : Thread nD τ) none (c' := (dn r c : Thread nD τ)) (κ₁ := κ₁) (κ₂ := κ₂)
      (r₁ := n / 8) (r₂ := n / 8) (d₁ := false) (d₂ := false) (fd := fd) (fs := fs) (q := lent k n)
      (F := iprop(bagR k r (n / 7) n c ∗ exA k r n c ∗ reached ER (recvCell k r (n + 7) c) ((n + 7) / 8)))
      hd₁ hd₂ n n N hN (amount_send m k r n c false _) (amount_recv m k r n (dn r c) false _) O hO (W := W)
      (by rw [payload_send]; unfold sendPay; rw [if_pos h7])
      (by
        rw [payload_recv]; unfold recvPay
        rw [dn_not_dn, bag_put]
        iintro ⟨⟨H1, H2, H3, H4⟩, H5⟩
        isplitl [H1]
        · iapply PT_landed k r (slot n) (slot (n + 1)) (dn r c) fs fd _ hfs
          iexact H1
        isplitl [H3 H4 H5]
        · iapply Ent_make k r n c h7
          isplitl [H5]
          · iapply AP_intro k r (slot n) c (lent k n) fs
            iexact H5
          isplitl [H3]; · iexact H3
          iexact H4
        · iexact H2)) $$ [Hsrc Hd Hbag Hex HO Ht1 Ht2]
    · isplitr; · iexact Hi1
      isplitr; · iexact Hi2
      isplitl [Hsrc]; · iexact Hsrc
      isplitl [Hd Hbag Hex]
      · isplitl [Hd]; · iexact Hd
        isplitl [Hbag]; · iexact Hbag
        isplitl [Hex]; · iexact Hex
        iexact Hrn
      isplitl [HO]; · iexact HO
      isplitl [Ht1]; · iexact Ht1
      isplitr; · iexact Hrs
      isplitl [Ht2]; · iexact Ht2
      iexact Hrd
    iintro ⟨Hcr, HO⟩
    rw [wp_ret]; imodintro
    iapply Hk
    isplitl [Hin]; · iexact Hin
    isplitl [HR]; · iexact HR
    isplitl [HS Hcr]
    · iapply HS; iexact Hcr
    · iexists W; iexact HO
  · have hl : lent k n = qL := by
      unfold lent
      rw [if_neg]
      rintro ⟨rfl, h'⟩
      exact h7 (by show n + 7 < 28; omega)
    iapply (Rounds.wp_send_pointsTo_with 𝒱₀ ER (Rd m) (c : Thread nD τ) none (c' := (dn r c : Thread nD τ)) (κ₁ := κ₁) (κ₂ := κ₂)
      (r₁ := n / 8) (r₂ := n / 8) (d₁ := false) (d₂ := false) (fd := fd) (fs := fs) (q := lent k n)
      (F := bagR k r (n / 7) n c)
      hd₁ hd₂ n n N hN (amount_send m k r n c false _) (amount_recv m k r n (dn r c) false _) O hO (W := W)
      (by
        rw [payload_send]; unfold sendPay; rw [if_neg h7, hl]
        exact AP_intro k r (slot n) c qL fs)
      (by
        rw [payload_recv]; unfold recvPay
        rw [dn_not_dn, bag_put, ent_end k r n c h7]
        iintro ⟨H1, H2⟩
        isplitl [H1]
        · iapply PT_landed k r (slot n) (slot (n + 1)) (dn r c) fs fd _ hfs
          iexact H1
        isplitr; · iempintro
        iexact H2)) $$ [Hsrc Hd Hbag HO Ht1 Ht2]
    · isplitr; · iexact Hi1
      isplitr; · iexact Hi2
      isplitl [Hsrc]; · iexact Hsrc
      isplitl [Hd Hbag]
      · isplitl [Hd]; · iexact Hd
        iexact Hbag
      isplitl [HO]; · iexact HO
      isplitl [Ht1]; · iexact Ht1
      isplitr; · iexact Hrs
      isplitl [Ht2]; · iexact Ht2
      iexact Hrd
    iintro ⟨Hcr, HO⟩
    rw [wp_ret]; imodintro
    iapply Hk
    isplitl [Hin]; · iexact Hin
    isplitl [HR]; · iexact HR
    isplitl [HS Hcr]
    · iapply HS; iexact Hcr
    · iexists W; iexact HO

/-- How many of a ring's departures have been waited for once hop `n` has started. -/
def waited (n : ℕ) : ℕ := n - 8

/-- Starting hop `n`, with the wait for the departure before it. -/
theorem wp_startStep (k r : Bool) (n : ℕ) (c : Dev nD) (O : CellTallies nD τ sig ℕ) (Q : PUnit → sProp 𝕄)
    (h : n < H k) (hO : Above 0 (O + ob k r n c)) :
    iprop(ctx m ∗ PT k r (slot n) c (lent k n) (hv r (sv m k n c)) ∗ Pm k r n c ∗ RW k r n c ∗ SW k r n (n - 8) c ∗ OW c (O + ob k r n c))
      ⊢ iprop(((init k r (n + 1) c ∗ RW k r n c ∗ SW k r (n + 1) (n + 1 - 8) c ∗ OW c (O + ob k r (n + 1) c)) -∗ Q ⟨⟩)
        -∗ WP c (startStep k r c n) Q) := by
  unfold startStep
  have hstep : O + ob k r n c = O + ob k r (n + 1) c + tallyAt (recvCell k r n (dn r c)) n N := by
    rw [ob_step k r c h, add_assoc]
  by_cases h8 : 8 ≤ n
  · rw [show Nat.ble 8 n = true from Nat.ble_eq.mpr h8, cond_true]
    unfold WP
    rw [wp_bind]
    iintro ⟨#Hc, Hsrc, Hp, HR, HS, HO⟩ Hk
    iapply (wp_waitSend m k r n (n - 8) c (O + ob k r n c) _ (by omega) (by omega) hO) $$ [HS HO]
    · isplitr; · iexact Hc
      isplitl [HS]; · iexact HS
      iexact HO
    iintro ⟨-, HS, HO⟩
    unfold start Prog.lift
    iapply (wp_startTo m k r n (n - 8 + 1) c (peer r c) (peer_eq r c) (O + ob k r (n + 1) c) (O + ob k r n c) Q h (by omega) (by omega)
      hstep) $$ [Hsrc Hp HR HS HO]
    · isplitr; · iexact Hc
      isplitl [Hsrc]; · iexact Hsrc
      isplitl [Hp]; · iexact Hp
      isplitl [HR]; · iexact HR
      isplitl [HS]; · iexact HS
      iexact HO
    rw [show n + 1 - 8 = n - 8 + 1 by omega]
    iexact Hk
  · rw [show Nat.ble 8 n = false from Bool.eq_false_iff.mpr fun e => h8 (Nat.ble_eq.mp e), cond_false,
      show n - 8 = 0 by omega, show n + 1 - 8 = 0 by omega]
    unfold start Prog.lift
    exact wp_startTo m k r n 0 c (peer r c) (peer_eq r c) (O + ob k r (n + 1) c) (O + ob k r n c) Q h (by omega) (by omega) hstep

end Cert.KernelIdeal.Hop
-- ==== Proof.Loads.lean ====
/- The steps of one device: waits for both halves, starts of both halves, loads, stores and weights. -/
module

public import proofs.«01_k».proof.Proof.Send

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Loads and stores -/

theorem wp_loadSlot (k : Bool) (s : Fin 8) (c : Dev nD) (q : PosShare TreeShare) (v : V F) (Q : V F → sProp 𝕄) :
    PS k s c q v ⊢ iprop((PS k s c q v -∗ Q v) -∗ WP c (loadSlot k s) Q) := by
  unfold loadSlot Prog.lift WP
  iintro H Hk
  ihave H := PS_elim k s c q v $$ H
  icases H with ⟨%f, %hf, H⟩
  subst hf
  iapply (wp_load_rect 𝒱₀ (c : Thread nD τ) none Set.univ (m := buf k) (r := slotR s) (Finset.Subset.refl _)) $$ H
  iintro H
  rw [wp_ret]; imodintro
  iapply Hk
  iapply PS_intro k s c q f
  iexact H

theorem wp_storeSlot (k : Bool) (s : Fin 8) (c : Dev nD) (v w : V F) (Q : PUnit → sProp 𝕄) :
    PS k s c fullShare w ⊢ iprop((PS k s c fullShare v -∗ Q ⟨⟩) -∗ WP c (storeSlot k s v) Q) := by
  unfold storeSlot Prog.lift WP
  iintro H Hk
  ihave H := PS_elim k s c fullShare w $$ H
  icases H with ⟨%f, -, H⟩
  iapply (wp_store 𝒱₀ (c : Thread nD τ) none Set.univ (m := buf k) (r := slotR s) (Mk := Finset.univ) (S := (sview k s).set) (f := f) (w := v) (Finset.Subset.refl _)) $$ H
  iintro H
  rw [wp_ret]; imodintro
  iapply Hk
  ihave H := PS_intro k s c fullShare _ $$ H
  rw [View.read_write_univ]
  iexact H

/-- The weight buffers holding `wi` and `wo`. -/
def WB (c : Dev nD) (wi : Vec F S1024x2048 .f32) (wo : Vec F S2048x1024 .f32) : sProp 𝕄 :=
  iprop(owns (c : Thread nD τ) wiM fullShare wi ∗ owns (c : Thread nD τ) woM fullShare wo)

/-- Loading the whole of a buffer. -/
theorem wp_loadAll {s : Shape} {e : EltTy} {cs : CoreSpace} (M : Memref sig .tc cs s e) (r : Rect s) (hl : M.view.LoadsAt r.toLoadRect)
    (c : Dev nD) (f : Buf (Elt F) (M.view.loc (c : Thread nD τ))) (Q : (r.shape.Idx → Elt F e) → sProp 𝕄) :
    (M.view.loc (c : Thread nD τ) ↦{fullShare} f)
      ⊢ iprop(((M.view.loc (c : Thread nD τ) ↦{fullShare} f) -∗ Q (M.view.readAt (Elt F) r.toLoadRect f))
        -∗ WP c (Prog.lift (.load M r.toLoadRect hl)) Q) := by
  unfold Prog.lift WP
  iintro H Hk
  iapply (wp_load 𝒱₀ (c : Thread nD τ) none Set.univ (m := M) (Finset.subset_univ _)) $$ H
  iintro H
  rw [wp_ret]; imodintro
  iapply Hk
  iexact H

theorem wp_loadWi (c : Dev nD) (x : Vec F S1024x2048 .f32) (Q : Vec F S1024x2048 .f32 → sProp 𝕄) :
    owns (c : Thread nD τ) wiM fullShare x
      ⊢ iprop((owns (c : Thread nD τ) wiM fullShare x -∗ Q x) -∗ WP c (Prog.lift (.load wiM (Rect.unit (s := S1024x2048) ![0, 0] S1024x2048.size inb_S1024x2048_S1024x2048_0_0).toLoadRect (View.loadsAt_vmem h_S1024x2048))) Q) := by
  rw [owns_whole]
  have h := wp_loadAll wiM (Rect.unit (s := S1024x2048) ![0, 0] S1024x2048.size inb_S1024x2048_S1024x2048_0_0) (View.loadsAt_vmem h_S1024x2048) c x Q
  have e := Memref.readAt_unit_zero (Elt F) cc0_scratch2 (off := ![0, 0]) (by decide) inb_S1024x2048_S1024x2048_0_0 x
  rw [show wiM.view.readAt (Elt F) (Rect.unit (s := S1024x2048) ![0, 0] S1024x2048.size inb_S1024x2048_S1024x2048_0_0).toLoadRect x = x from e] at h
  exact h

theorem wp_loadWo (c : Dev nD) (x : Vec F S2048x1024 .f32) (Q : Vec F S2048x1024 .f32 → sProp 𝕄) :
    owns (c : Thread nD τ) woM fullShare x
      ⊢ iprop((owns (c : Thread nD τ) woM fullShare x -∗ Q x) -∗ WP c (Prog.lift (.load woM (Rect.unit (s := S2048x1024) ![0, 0] S2048x1024.size inb_S2048x1024_S2048x1024_0_0).toLoadRect (View.loadsAt_vmem h_S2048x1024))) Q) := by
  rw [owns_whole]
  have h := wp_loadAll woM (Rect.unit (s := S2048x1024) ![0, 0] S2048x1024.size inb_S2048x1024_S2048x1024_0_0) (View.loadsAt_vmem h_S2048x1024) c x Q
  have e := Memref.readAt_unit_zero (Elt F) cc0_scratch3 (off := ![0, 0]) (by decide) inb_S2048x1024_S2048x1024_0_0 x
  rw [show woM.view.readAt (Elt F) (Rect.unit (s := S2048x1024) ![0, 0] S2048x1024.size inb_S2048x1024_S2048x1024_0_0).toLoadRect x = x from e] at h
  exact h

theorem wp_loadW (c : Dev nD) (wi : Vec F S1024x2048 .f32) (wo : Vec F S2048x1024 .f32)
    (Q : Vec F S1024x2048 .f32 × Vec F S2048x1024 .f32 → sProp 𝕄) :
    WB c wi wo ⊢ iprop((WB c wi wo -∗ Q (wi, wo)) -∗ WP c loadW Q) := by
  unfold WB loadW WP
  rw [wp_bind]
  iintro ⟨H1, H2⟩ Hk
  iapply (wp_loadWi c wi _) $$ H1
  iintro H1
  irw [wp_bind]
  iapply (wp_loadWo c wo _) $$ H2
  iintro H2
  irw [Prog.pure_eq_ret]
  irw [wp_ret]; imodintro
  iapply Hk
  isplitl [H1]; · iexact H1
  iexact H2

/-- The staged input block. -/
def XB (c : Dev nD) (x : Vec F S64x1024 .f32) : sProp 𝕄 := owns (c : Thread nD τ) xM fullShare x

theorem wp_loadX (c : Dev nD) (x : Vec F S64x1024 .f32) (Q : Vec F S64x1024 .f32 → sProp 𝕄) :
    XB c x ⊢ iprop((XB c x -∗ Q x) -∗ WP c (Prog.lift (.load xM (Rect.unit (s := S64x1024) ![0, 0] S64x1024.size inb_S64x1024_S64x1024_0_0).toLoadRect (View.loadsAt_vmem h_S64x1024))) Q) := by
  unfold XB
  rw [owns_whole]
  have h := wp_loadAll xM (Rect.unit (s := S64x1024) ![0, 0] S64x1024.size inb_S64x1024_S64x1024_0_0) (View.loadsAt_vmem h_S64x1024) c x Q
  have e := Memref.readAt_unit_zero (Elt F) cc0_stg0_0 (off := ![0, 0]) (by decide) inb_S64x1024_S64x1024_0_0 x
  rw [show xM.view.readAt (Elt F) (Rect.unit (s := S64x1024) ![0, 0] S64x1024.size inb_S64x1024_S64x1024_0_0).toLoadRect x = x from e] at h
  exact h

/-! ## Both directions at once -/

def init2 (k : Bool) (n : ℕ) (c : Dev nD) : sProp 𝕄 := iprop(init (F := F) k false n c ∗ init (F := F) k true n c)
def bag2 (k : Bool) (L n : ℕ) (c : Dev nD) : sProp 𝕄 := iprop(bag (F := F) k false L n c ∗ bag (F := F) k true L n c)
def exA2 (k : Bool) (n : ℕ) (c : Dev nD) : sProp 𝕄 := iprop(exA (F := F) k false n c ∗ exA (F := F) k true n c)
def RW2 (k : Bool) (n : ℕ) (c : Dev nD) : sProp 𝕄 := iprop(RW (F := F) k false n c ∗ RW (F := F) k true n c)
def SW2 (k : Bool) (n w : ℕ) (c : Dev nD) : sProp 𝕄 := iprop(SW (F := F) k false n w c ∗ SW (F := F) k true n w c)

theorem wp_startBoth (k : Bool) (n : ℕ) (c : Dev nD) (O : CellTallies nD τ sig ℕ) (Q : PUnit → sProp 𝕄)
    (h : n < H k) (hO : Above 0 O) (v : V F) (hv : v = sv m k n c) :
    iprop(ctx m ∗ PS k (slot n) c (lent k n) v ∗ exA2 k n c ∗ init2 k n c ∗ bag2 k (n / 7) n c ∗ RW2 k n c ∗ SW2 k n (n - 8) c
        ∗ OW c (O + ob2 k n c))
      ⊢ iprop(((init2 k (n + 1) c ∗ RW2 k n c ∗ SW2 k (n + 1) (n + 1 - 8) c ∗ OW c (O + ob2 k (n + 1) c)) -∗ Q ⟨⟩)
        -∗ WP c (startBoth k c n) Q) := by
  subst hv
  have hab : ∀ r j, Above 0 (ob k r j c) := fun r j => Above.ob k r c (by omega)
  have e1 : O + ob2 k n c = (O + ob k true n c) + ob k false n c := by unfold ob2; rw [add_assoc, add_comm (ob k false n c)]
  have e2 : (O + ob k true n c) + ob k false (n + 1) c = (O + ob k false (n + 1) c) + ob k true n c := by rw [add_assoc, add_assoc, add_comm (ob k true n c)]
  have e3 : (O + ob k false (n + 1) c) + ob k true (n + 1) c = O + ob2 k (n + 1) c := by unfold ob2; rw [add_assoc]
  rw [e1]
  unfold startBoth PS exA2 init2 bag2 RW2 SW2
  unfold WP
  rw [wp_bind]
  iintro ⟨#Hc, ⟨P0, P1⟩, ⟨X0, X1⟩, ⟨I0, I1⟩, ⟨B0, B1⟩, ⟨R0, R1⟩, ⟨S0, S1⟩, HO⟩ Hk
  iapply (wp_startStep m k false n c (O + ob k true n c) _ h ((hO.add (hab _ _)).add (hab _ _))) $$ [P0 X0 I0 B0 R0 S0 HO]
  · unfold Pm
    isplitr; · iexact Hc
    isplitl [P0]; · iexact P0
    isplitl [X0 I0 B0]
    · isplitl [X0]; · iexact X0
      isplitl [I0]; · iexact I0
      iexact B0
    isplitl [R0]; · iexact R0
    isplitl [S0]; · iexact S0
    iexact HO
  iintro ⟨I0, R0, S0, HO⟩
  rw [e2]
  iapply (wp_startStep m k true n c (O + ob k false (n + 1) c) _ h ((hO.add (hab _ _)).add (hab _ _))) $$ [P1 X1 I1 B1 R1 S1 HO]
  · unfold Pm
    isplitr; · iexact Hc
    isplitl [P1]; · iexact P1
    isplitl [X1 I1 B1]
    · isplitl [X1]; · iexact X1
      isplitl [I1]; · iexact I1
      iexact B1
    isplitl [R1]; · iexact R1
    isplitl [S1]; · iexact S1
    iexact HO
  iintro ⟨I1, R1, S1, HO⟩
  rw [e3]
  iapply Hk
  isplitl [I0 I1]
  · isplitl [I0]; · iexact I0
    iexact I1
  isplitl [R0 R1]
  · isplitl [R0]; · iexact R0
    iexact R1
  isplitl [S0 S1]
  · isplitl [S0]; · iexact S0
    iexact S1
  iexact HO

theorem wp_recvBoth (k : Bool) (n : ℕ) (c : Dev nD) (O : CellTallies nD τ sig ℕ) (Q : PUnit → sProp 𝕄) (h : n < H k)
    (hO : Above (2 * n + 2 + k.toNat) O) :
    iprop(ctx m ∗ RW2 k n c ∗ OW c O)
      ⊢ iprop(((PS k (slot (n + 1)) c fullShare (rcv (sv m k n) c) ∗ bag2 k (n / 7) (n + 1) c ∗ RW2 k (n + 1) c ∗ OW c O) -∗ Q ⟨⟩)
        -∗ WP c (recvBoth k n) Q) := by
  unfold recvBoth RW2 bag2 rcv
  rw [← PS_of_halves]
  unfold WP
  rw [wp_bind]
  iintro ⟨#Hc, ⟨R0, R1⟩, HO⟩ Hk
  iapply (wp_waitRecv m k false n c O _ h hO) $$ [R0 HO]
  · isplitr; · iexact Hc
    isplitl [R0]; · iexact R0
    iexact HO
  unfold recvPay
  iintro ⟨⟨P0, B0⟩, R0, HO⟩
  iapply (wp_waitRecv m k true n c O _ h hO) $$ [R1 HO]
  · isplitr; · iexact Hc
    isplitl [R1]; · iexact R1
    iexact HO
  unfold recvPay
  iintro ⟨⟨P1, B1⟩, R1, HO⟩
  iapply Hk
  isplitl [P0 P1]
  · isplitl [P0]; · iexact P0
    iexact P1
  isplitl [B0 B1]
  · isplitl [B0]; · iexact B0
    iexact B1
  isplitl [R0 R1]
  · isplitl [R0]; · iexact R0
    iexact R1
  iexact HO

/-! ## The weights -/

/-- The owner's side of a weight's cell before layer `l`. -/
def WC (b : Bool) (l : ℕ) (c : Dev nD) : sProp 𝕄 :=
  iprop(pos (F := F) (wCell b c) l ∗ bigSep (Finset.Ico l 3) (fun i => dutyTok ER (wCell b c) i false))

theorem WC_take (b : Bool) (l : ℕ) (c : Dev nD) (h : l < 3) :
    WC b l c ⊢ (iprop(pos (F := F) (wCell b c) l ∗ dutyTok ER (wCell b c) l false
      ∗ (pos (F := F) (wCell b c) (l + 1) -∗ WC (F := F) b (l + 1) c)) : sProp 𝕄) := by
  unfold WC
  rw [bigSep_Ico_succ_bot h]
  iintro ⟨H1, H2, H3⟩
  isplitl [H1]; · iexact H1
  isplitl [H2]; · iexact H2
  iintro H1
  isplitl [H1]; · iexact H1
  iexact H3

theorem wp_waitW (b : Bool) (l : ℕ) (c : Dev nD) (O : CellTallies nD τ sig ℕ) (h : l < 3) (hO : Above 0 O)
    {sp sp' : Space} {s : Shape} {e : EltTy}
    (src : Memref sig .tc sp s e) (dst : Memref sig .tc sp' s e) (h1 : src.view.WordExact) (h2 : dst.view.WordExact)
    (hb : dst.view.dmaCredit = NW b) (Q : PUnit → sProp 𝕄) :
    iprop(ctx m ∗ pos (wCell b c) l ∗ cred (tallyAt (wCell b c) l (NW b)) ∗ OW c O)
      ⊢ iprop(((wPay m b l c ∗ pos (wCell b c) (l + 1) ∗ OW c O) -∗ Q ⟨⟩)
        -∗ WP c (Prog.lift (.waitDma2 (bif b then wSem1 else wSem0) src dst h1 h2)) Q) := by
  unfold Prog.lift WP pos OW
  iintro ⟨#Hc, ⟨Hat, -⟩, Hcr, ⟨%W, HO⟩⟩ Hk
  ihave Hi := ctx_inv m c (.dma (bif b then wSem1 else wSem0)) (csem_w b) $$ Hc
  icases Hi with ⟨%κ, #Hi⟩
  iapply (Rounds.wp_wait_rest_token 𝒱₀ ER (Rd m) (c : Thread nD τ) none (κ := κ)
      (wpE_waitDma2_eq 𝒱₀ (c : Thread nD τ) none Set.univ) (Set.mem_univ _) l (O := O) (W := W) (R := l) (m := 0) (T := ∅)
      (by rw [Nat.zero_add, expect_w m c b l h]; exact hb)) $$ [Hcr HO Hat]
  · isplitr; · iexact Hi
    isplitl [Hcr]
    · ihave Hcr := (Entails.of_eq (by rw [hb] :
        (cred (tallyAt (wCell b c) l (NW b)) : sProp 𝕄) = cred (tallyAt (wCell b c) l dst.view.dmaCredit))) $$ Hcr
      iexact Hcr
    isplitl [HO]; · iexact HO
    isplitr
    · iapply (mayWait c _ l O (by omega) hO (le_of_eq (lv_w b c l)))
      iapply ctx_levs m
      iexact Hc
    iexact Hat
  iintro ⟨HO, Hat, Hr, Hpay⟩
  ihave Hpay := (Entails.of_eq (rest_w m c b l h)) $$ Hpay
  rw [wp_ret]; imodintro
  iapply Hk
  isplitl [Hpay]; · iexact Hpay
  isplitl [Hat Hr]
  · isplitl [Hat]; · iexact Hat
    iexact Hr
  · iexists _; iexact HO

theorem wPay_false (l : ℕ) (c : Dev nD) : wPay m false l c
    = iprop(owns (c : Thread nD τ) wiM fullShare (WI m l c) ∗ owns (c : Thread nD τ) (winM l) fullShare (WI m l c)) := rfl
theorem wPay_true (l : ℕ) (c : Dev nD) : wPay m true l c
    = iprop(owns (c : Thread nD τ) woM fullShare (WO m l c) ∗ owns (c : Thread nD τ) (woutM l) fullShare (WO m l c)) := rfl

/-- A transfer of a whole block into a buffer of its size. -/
theorem wp_copyW (b : Bool) (l : ℕ) (c : Dev nD) (h : l < 3) {sp sp' : Space} {s : Shape} {e : EltTy}
    (src : Memref sig .tc sp s e) (dst : Memref sig .tc sp' s e) (h1 : src.view.WordExact) (h2 : dst.view.WordExact)
    (h3 : DmaTarget.Typed (nD := nD) sp (.dma (bif b then wSem1 else wSem0)) (.here dst : DmaTarget nD τ sig (Proc.tc : Proc τ) sp' s e))
    (hb : dst.view.dmaCredit = NW b) (X Y : s.Idx → Elt F e)
    (hp : iprop(owns (c : Thread nD τ) dst fullShare X ∗ owns (c : Thread nD τ) src fullShare X) ⊢ wPay m b l c) (Q : PUnit → sProp 𝕄) :
    iprop(ctx m ∗ owns (c : Thread nD τ) src fullShare X ∗ owns (c : Thread nD τ) dst fullShare Y ∗ dutyTok ER (wCell b c) l false ∗ pos (wCell b c) l)
      ⊢ iprop(((pos (wCell b c) l ∗ cred (tallyAt (wCell b c) l (NW b))) -∗ Q ⟨⟩)
        -∗ WP c (Prog.lift (.enqueueDma src (.here dst) (.dma (bif b then wSem1 else wSem0)) h1 h2 h3)) Q) := by
  unfold Prog.lift WP pos owns
  iintro ⟨#Hc, ⟨%fs, %hfs, Hs⟩, ⟨%fd, -, Hd⟩, Ht, ⟨Hat, #Hr⟩⟩ Hk
  ihave Hi := ctx_inv m c (.dma (bif b then wSem1 else wSem0)) (csem_w b) $$ Hc
  icases Hi with ⟨%κ, #Hi⟩
  have hw : dst.view.read (Elt F) (dst.view.write (Elt F) fd (src.view.read (Elt F) fs) Finset.univ) = X := by
    rw [View.read_write_univ]; exact hfs
  have hd : false ∈ (Rd m).duties (wCell b c) l := by
    rw [duties_w, if_pos h]; exact Finset.mem_singleton_self _
  iapply (Rounds.wp_copy_pointsTo 𝒱₀ ER (Rd m) (c : Thread nD τ) none (κ := κ) (fs := fs) (fd := fd) (q := fullShare) (r := l) (d := false)
    hd l (NW b) hb (amount_w m c b false l)
    (by
      rw [payload_w]
      refine BIBase.Entails.trans ?_ hp
      unfold owns
      iintro ⟨H1, H2⟩
      isplitl [H1]
      · iexists (dst.view.write (Elt F) fd (src.view.read (Elt F) fs) Finset.univ)
        isplitr
        · ipureintro; exact hw
        · iexact H1
      · iexists fs
        isplitr; · ipureintro; exact hfs
        iexact H2)) $$ [Hs Hd Ht]
  · isplitr; · iexact Hi
    isplitl [Hs]; · iexact Hs
    isplitl [Hd]; · iexact Hd
    isplitl [Ht]; · iexact Ht
    iexact Hr
  iintro Hcr
  rw [wp_ret]; imodintro
  iapply Hk
  isplitl [Hat]
  · isplitl [Hat]; · iexact Hat
    iexact Hr
  · iexact Hcr

/-- Layer `l`'s weights where they are kept. -/
def SRC (l : ℕ) (c : Dev nD) : sProp 𝕄 :=
  iprop(owns (c : Thread nD τ) (winM l) fullShare (WI m l c) ∗ owns (c : Thread nD τ) (woutM l) fullShare (WO m l c))

theorem wp_fetchW (l : ℕ) (c : Dev nD) (O : CellTallies nD τ sig ℕ) (h : l < 3) (hO : Above 0 O)
    (wi : Vec F S1024x2048 .f32) (wo : Vec F S2048x1024 .f32) (Q : PUnit → sProp 𝕄) :
    iprop(ctx m ∗ SRC m l c ∗ WB c wi wo ∗ WC false l c ∗ WC true l c ∗ OW c O)
      ⊢ iprop(((SRC m l c ∗ WB c (WI m l c) (WO m l c) ∗ WC false (l + 1) c ∗ WC true (l + 1) c ∗ OW c O) -∗ Q ⟨⟩)
        -∗ WP c (fetchW l) Q) := by
  unfold fetchW WP SRC WB
  simp only [wp_bind]
  iintro ⟨#Hc, ⟨S0, S1⟩, ⟨D0, D1⟩, W0, W1, HO⟩ Hk
  ihave W0 := WC_take false l c h $$ W0
  icases W0 with ⟨P0, T0, W0⟩
  ihave W1 := WC_take true l c h $$ W1
  icases W1 with ⟨P1, T1, W1⟩
  iapply (wp_copyW m false l c h (winM l) wiM (winM_wordExact l) (Memref.isWhole_whole _).wordExact ⟨Or.inl rfl, trivial⟩ rfl (WI m l c) wi
    (Entails.of_eq (wPay_false m l c).symm)) $$ [S0 D0 P0 T0]
  · isplitr; · iexact Hc
    isplitl [S0]; · iexact S0
    isplitl [D0]; · iexact D0
    isplitl [T0]; · iexact T0
    iexact P0
  iintro ⟨P0, C0⟩
  iapply (wp_copyW m true l c h (woutM l) woM (woutM_wordExact l) (Memref.isWhole_whole _).wordExact ⟨Or.inl rfl, trivial⟩ rfl (WO m l c) wo
    (Entails.of_eq (wPay_true m l c).symm)) $$ [S1 D1 P1 T1]
  · isplitr; · iexact Hc
    isplitl [S1]; · iexact S1
    isplitl [D1]; · iexact D1
    isplitl [T1]; · iexact T1
    iexact P1
  iintro ⟨P1, C1⟩
  iapply (wp_waitW m false l c O h hO (winM l) wiM (winM_wordExact l) (Memref.isWhole_whole _).wordExact rfl) $$ [P0 C0 HO]
  · isplitr; · iexact Hc
    isplitl [P0]; · iexact P0
    isplitl [C0]; · iexact C0
    iexact HO
  rw [wPay_false]
  iintro ⟨⟨D0, S0⟩, P0, HO⟩
  iapply (wp_waitW m true l c O h hO (woutM l) woM (woutM_wordExact l) (Memref.isWhole_whole _).wordExact rfl) $$ [P1 C1 HO]
  · isplitr; · iexact Hc
    isplitl [P1]; · iexact P1
    isplitl [C1]; · iexact C1
    iexact HO
  rw [wPay_true]
  iintro ⟨⟨D1, S1⟩, P1, HO⟩
  iapply Hk
  isplitl [S0 S1]
  · isplitl [S0]; · iexact S0
    iexact S1
  isplitl [D0 D1]
  · isplitl [D0]; · iexact D0
    iexact D1
  isplitl [P0 W0]
  · iapply W0; iexact P0
  isplitl [P1 W1]
  · iapply W1; iexact P1
  iexact HO

end Cert.KernelIdeal.Hop
-- ==== Proof.Layers.lean ====
/- A layer: its beginning, its hops, and the permissions at its end. -/
module

public import proofs.«01_k».proof.Proof.Loads

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- A number of programs in a row keep an invariant that each keeps. -/
theorem wp_seq (c : Dev nD) (f : ℕ → P F) (I : ℕ → sProp 𝕄) (k : ℕ) : ∀ (n : ℕ)
    (_ : ∀ i, n ≤ i → i < n + k → ∀ Q : PUnit → sProp 𝕄, I i ⊢ iprop((I (i + 1) -∗ Q ⟨⟩) -∗ WP c (f i) Q))
    (Q : PUnit → sProp 𝕄), I n ⊢ iprop((I (n + k) -∗ Q ⟨⟩) -∗ WP c (seq f k n) Q) := by
  induction k with
  | zero =>
    intro n _ Q
    unfold seq WP
    rw [Prog.pure_eq_ret, wp_ret]
    iintro H Hk
    imodintro
    iapply Hk
    iexact H
  | succ k ih =>
    intro n h Q
    unfold seq WP
    rw [wp_bind]
    iintro H Hk
    iapply (h n (le_refl _) (by omega) _) $$ H
    iintro H
    iapply (ih (n + 1) (fun i hi hi' => h i (by omega) (by omega)) _) $$ H
    rw [show n + 1 + k = n + (k + 1) by omega]
    iexact Hk

/-! ## The values -/

theorem sent_succ {n : ℕ} (c : Dev nD) (h : (n + 1) % 7 ≠ 0) : sent m (n + 1) c = arr m n (sent m n) c := by
  rw [sent]; dsimp only; rw [decide_eq_false h, cond_false]

theorem sent_next {n : ℕ} (c : Dev nD) (h : (n + 1) % 7 = 0) :
    sent m (n + 1) c = fresh m ((n + 1) / 7) c (nextVal (arr m n (sent m n) c).2) := by
  rw [sent]; dsimp only; rw [decide_eq_true h, cond_true]

theorem sv_act (n : ℕ) (c : Dev nD) : sv m false n c = (sent m n c).1 := rfl

theorem sv_acc {n : ℕ} (c : Dev nD) (h : n < 21) : sv m true n c = (sent m n c).2 := by
  unfold sv; rw [cond_true, if_pos h]

theorem sv_gath (j : ℕ) (c : Dev nD) : sv m true (21 + j) c = gath m j c := by
  unfold sv; rw [cond_true, if_neg (by omega), show 21 + j - 21 = j by omega]

theorem rcv_acc {n : ℕ} (c : Dev nD) (h : n < 21) : rcv (sv m true n) c = rcv (fun d => (sent m n d).2) c := by
  unfold rcv; rw [sv_acc m _ h, sv_acc m _ h]

theorem arr_snd {n : ℕ} (c : Dev nD) (h : n < 21) :
    addVal (contrib (rcv (sv m false n) c) (WI m (n / 7) c) (WO m (n / 7) c)) (rcv (sv m true n) c) = (arr m n (sent m n) c).2 := by
  rw [rcv_acc m c h]; rfl

theorem fresh_fst (l : ℕ) (c : Dev nD) (a : V F) : (fresh m l c a).1 = a := rfl
theorem fresh_snd (l : ℕ) (c : Dev nD) (a : V F) :
    (fresh m l c a).2 = headVal (contrib a (WI m l c) (WO m l c)) := rfl

/-! ## The activations' shares that stay -/

/-- The right shares of the activations from hop 14 on, which no permission takes along. -/
def kept (n : ℕ) (c : Dev nD) : sProp 𝕄 := bigSep (Finset.Ico 14 n) (fun i => AS (F := F) false (slot i) c qR)

theorem exA_kept (n : ℕ) (c : Dev nD) (v : V F) :
    PS false (slot n) c qR v ⊢ (iprop(exA2 true n c ∗ (kept n c -∗ kept (F := F) (n + 1) c)) : sProp 𝕄) := by
  iintro H
  ihave H := PS_AS _ _ _ _ _ $$ H
  by_cases h : n + 7 < 21
  · unfold exA2 exA
    rw [if_pos ⟨rfl, h⟩, if_pos ⟨rfl, h⟩]
    isplitl [H]
    · unfold AS; iexact H
    · unfold kept
      rw [Finset.Ico_eq_empty_of_le (show n ≤ 14 by omega), Finset.Ico_eq_empty_of_le (show n + 1 ≤ 14 by omega)]
      iintro H; iexact H
  · unfold exA2 exA
    rw [if_neg fun e => h e.2, if_neg fun e => h e.2]
    isplitr
    · isplitr <;> iempintro
    · unfold kept
      rw [bigSep_Ico_succ_top (show 14 ≤ n by omega)]
      iintro Hk
      isplitl [H]; · iexact H
      iexact Hk

theorem exA2_act (n : ℕ) (c : Dev nD) : (emp : sProp 𝕄) ⊢ exA2 (F := F) false n c := by
  unfold exA2 exA
  rw [if_neg fun e => Bool.noConfusion e.1, if_neg fun e => Bool.noConfusion e.1]
  iintro -; isplitr <;> iempintro

theorem lent_act (n : ℕ) : lent false n = qL := if_neg fun e => Bool.noConfusion e.1
theorem lent_acc {n : ℕ} (h : n < 21) : lent true n = fullShare := if_pos ⟨rfl, h⟩
theorem lent_gath {n : ℕ} (h : 21 ≤ n) : lent true n = qL := if_neg fun e => absurd e.2 (by omega)

/-! ## The hops -/

/-- What device `c` has while hop `n` of both rings is under way. -/
def Fl (n : ℕ) (c : Dev nD) : sProp 𝕄 :=
  iprop(init2 (F := F) false (n + 1) c ∗ init2 true (n + 1) c ∗ RW2 false n c ∗ RW2 true n c
    ∗ SW2 false (n + 1) (n + 1 - 8) c ∗ SW2 true (n + 1) (n + 1 - 8) c ∗ OW c (ob2 false (n + 1) c + ob2 true (n + 1) c)
    ∗ kept (n + 1) c ∗ WB c (WI m (n / 7) c) (WO m (n / 7) c))

/-- What device `c` has of the rings at the boundary before hop `n`, the permissions counted for layer `L`. -/
def Mid (L n : ℕ) (c : Dev nD) : sProp 𝕄 :=
  iprop(init2 (F := F) false n c ∗ init2 true n c ∗ bag2 false L n c ∗ bag2 true L n c ∗ RW2 false n c ∗ RW2 true n c
    ∗ SW2 false n (n - 8) c ∗ SW2 true n (n - 8) c ∗ OW c (ob2 false n c + ob2 true n c)
    ∗ kept n c)

theorem wp_hop (n : ℕ) (c : Dev nD) (Q : PUnit → sProp 𝕄) (h7 : (n + 1) % 7 ≠ 0) (hn : n + 1 < 21) :
    iprop(ctx m ∗ Fl m n c) ⊢ iprop((Fl m (n + 1) c -∗ Q ⟨⟩) -∗ WP c (hop c false n) Q) := by
  unfold hop startUnless Fl WP
  simp only [wp_bind, cond_false]
  iintro ⟨#Hc, I0, I1, R0, R1, S0, S1, HO, K, HW⟩ Hk
  have hf : n + 1 < H false := hn
  have ht : n + 1 < H true := by have : n + 1 < 28 := by omega
                                 exact this
  have hdiv : (n + 1) / 7 = n / 7 := by omega
  have hl : lent false (n + 1) = qL := lent_act _
  have hl' : lent true (n + 1) = fullShare := lent_acc hn
  have v1 : rcv (sv m false n) c = sv m false (n + 1) c := by rw [sv_act, sent_succ m c h7]; rfl
  have v2 : addVal (contrib (rcv (sv m false n) c) (WI m (n / 7) c) (WO m (n / 7) c)) (rcv (sv m true n) c) = sv m true (n + 1) c := by
    rw [arr_snd m c (by omega), sv_acc m c hn, sent_succ m c h7]
  have A1 : Above (2 * n + 2 + false.toNat) (ob2 false (n + 1) c + ob2 true (n + 1) c) :=
    Above.add (Above.ob2 false c (by simp <;> omega)) (Above.ob2 true c (by simp <;> omega))
  have A2 : Above (2 * n + 2 + true.toNat) (ob2 true (n + 1) c + ob2 false (n + 1 + 1) c) :=
    Above.add (Above.ob2 true c (by simp <;> omega)) (Above.ob2 false c (by simp <;> omega))
  iapply (wp_recvBoth m false n c _ _ (by omega) A1) $$ [R0 HO]
  · isplitr; · iexact Hc
    isplitl [R0]; · iexact R0
    iexact HO
  iintro ⟨P, B, R0, HO⟩
  ihave P := PS_split _ _ _ _ $$ P
  icases P with ⟨PL, PR⟩
  rw [add_comm (ob2 false (n + 1) c) (ob2 true (n + 1) c)]
  iapply (wp_startBoth m false (n + 1) c (ob2 true (n + 1) c) _ hf (Above.ob2 true c (by omega)) (rcv (sv m false n) c) v1) $$ [PL B R0 I0 S0 HO]
  · rw [hl, hdiv]
    isplitr; · iexact Hc
    isplitl [PL]; · iexact PL
    isplitr; · iapply exA2_act; iempintro
    isplitl [I0]; · iexact I0
    isplitl [B]; · iexact B
    isplitl [R0]; · iexact R0
    isplitl [S0]; · iexact S0
    iexact HO
  iintro ⟨I0, R0, S0, HO⟩
  iapply (wp_loadSlot false (slot (n + 1)) c qR _ _) $$ PR
  iintro PR
  iapply (wp_loadW c _ _ _) $$ HW
  iintro HW
  iapply (wp_recvBoth m true n c _ _ (by omega) A2) $$ [R1 HO]
  · isplitr; · iexact Hc
    isplitl [R1]; · iexact R1
    iexact HO
  iintro ⟨P, B, R1, HO⟩
  iapply (wp_loadSlot true (slot (n + 1)) c fullShare _ _) $$ P
  iintro P
  iapply (wp_loadSlot true (slot (n + 1)) c fullShare _ _) $$ P
  iintro P
  iapply (wp_storeSlot true (slot (n + 1)) c _ _ _) $$ P
  iintro P
  ihave X := exA_kept (n + 1) c _ $$ PR
  icases X with ⟨X, K'⟩
  rw [add_comm (ob2 true (n + 1) c) (ob2 false (n + 1 + 1) c)]
  iapply (wp_startBoth m true (n + 1) c (ob2 false (n + 1 + 1) c) _ ht (Above.ob2 false c (by omega)) _ v2) $$ [P X B R1 I1 S1 HO]
  · rw [hl', hdiv]
    isplitr; · iexact Hc
    isplitl [P]; · iexact P
    isplitl [X]; · iexact X
    isplitl [I1]; · iexact I1
    isplitl [B]; · iexact B
    isplitl [R1]; · iexact R1
    isplitl [S1]; · iexact S1
    iexact HO
  iintro ⟨I1, R1, S1, HO⟩
  rw [hdiv]
  iapply Hk
  isplitl [I0]; · iexact I0
  isplitl [I1]; · iexact I1
  isplitl [R0]; · iexact R0
  isplitl [R1]; · iexact R1
  isplitl [S0]; · iexact S0
  isplitl [S1]; · iexact S1
  isplitl [HO]; · iexact HO
  isplitl [K K']
  · iapply K'; iexact K
  iexact HW

theorem wp_hopLast (n : ℕ) (c : Dev nD) (Q : PUnit → sProp 𝕄) (hn : n < 21) :
    iprop(ctx m ∗ Fl m n c)
      ⊢ iprop(((PS true (slot (n + 1)) c fullShare (arr m n (sent m n) c).2 ∗ AS false (slot (n + 1)) c fullShare ∗ Mid (n / 7) (n + 1) c
          ∗ WB c (WI m (n / 7) c) (WO m (n / 7) c)) -∗ Q ⟨⟩) -∗ WP c (hop c true n) Q) := by
  unfold hop startUnless Fl WP
  simp only [wp_bind, cond_true, Prog.pure_eq_ret, wp_ret]
  iintro ⟨#Hc, I0, I1, R0, R1, S0, S1, HO, K, HW⟩ Hk
  have hf : n < H false := hn
  have ht : n < H true := by have : n < 28 := by omega
                             exact this
  have v2 := arr_snd m c hn
  have A1 : Above (2 * n + 2 + false.toNat) (ob2 false (n + 1) c + ob2 true (n + 1) c) :=
    Above.add (Above.ob2 false c (by simp <;> omega)) (Above.ob2 true c (by simp <;> omega))
  have A2 : Above (2 * n + 2 + true.toNat) (ob2 false (n + 1) c + ob2 true (n + 1) c) :=
    Above.add (Above.ob2 false c (by simp <;> omega)) (Above.ob2 true c (by simp <;> omega))
  iapply (wp_recvBoth m false n c _ _ hf A1) $$ [R0 HO]
  · isplitr; · iexact Hc
    isplitl [R0]; · iexact R0
    iexact HO
  iintro ⟨P0, B0, R0, HO⟩
  imodintro
  iapply (wp_loadSlot false (slot (n + 1)) c fullShare _ _) $$ P0
  iintro P0
  iapply (wp_loadW c _ _ _) $$ HW
  iintro HW
  iapply (wp_recvBoth m true n c _ _ ht A2) $$ [R1 HO]
  · isplitr; · iexact Hc
    isplitl [R1]; · iexact R1
    iexact HO
  iintro ⟨P, B1, R1, HO⟩
  iapply (wp_loadSlot true (slot (n + 1)) c fullShare _ _) $$ P
  iintro P
  iapply (wp_loadSlot true (slot (n + 1)) c fullShare _ _) $$ P
  iintro P
  iapply (wp_storeSlot true (slot (n + 1)) c _ _ _) $$ P
  iintro P
  imodintro
  iapply Hk
  isplitl [P]; · irw [← v2]; iexact P
  isplitl [P0]
  · iapply PS_AS; iexact P0
  isplitl [I0 I1 B0 B1 R0 R1 S0 S1 HO K]
  · unfold Mid
    isplitl [I0]; · iexact I0
    isplitl [I1]; · iexact I1
    isplitl [B0]; · iexact B0
    isplitl [B1]; · iexact B1
    isplitl [R0]; · iexact R0
    isplitl [R1]; · iexact R1
    isplitl [S0]; · iexact S0
    isplitl [S1]; · iexact S1
    isplitl [HO]; · iexact HO
    iexact K
  iexact HW

/-! ## The permissions at a layer's end -/

theorem ent_merge (r : Bool) (L e n : ℕ) (c : Dev nD) (he : e / 7 = L + 1) :
    iprop(ent (F := F) false r L n c e ∗ ent true r L n c e)
      ⊢ (iprop(ent false r (L + 1) n c e ∗ ent true r (L + 1) n c e) : sProp 𝕄) := by
  unfold ent
  by_cases h : e < 21
  · have h1 : 7 ≤ e ∧ e < H false := ⟨by omega, h⟩
    have h2 : 7 ≤ e ∧ e < H true := ⟨by omega, lt_trans h (by decide)⟩
    rw [if_pos h1, if_pos h2, if_pos h1, if_pos h2]
    unfold Ent side
    have g1 : ¬ e / 7 ≤ L := by omega
    have g2 : e / 7 ≤ L + 1 := by omega
    simp only [g1, g2, h, not_true_eq_false, not_false_eq_true, false_and, and_false, true_and, or_false, or_true, if_true, if_false,
      Bool.false_eq_true]
    iintro ⟨⟨A, -, R⟩, ⟨A', X, R'⟩⟩
    isplitl [A X R]
    · isplitl [A X]
      · iapply AP_join
        isplitl [A]; · iexact A
        iexact X
      isplitr; · iempintro
      iexact R
    · isplitl [A']; · iexact A'
      isplitr; · iempintro
      iexact R'
  · have h1 : ¬ (7 ≤ e ∧ e < H false) := fun h' => h h'.2
    rw [if_neg h1, if_neg h1]
    by_cases h2 : 7 ≤ e ∧ e < H true
    · rw [if_pos h2, if_pos h2]
      unfold Ent side
      simp only [h, and_false, if_false, true_or, if_true]
      iintro H; iexact H
    · rw [if_neg h2, if_neg h2]

theorem bag_merge (r : Bool) (L : ℕ) (c : Dev nD) :
    iprop(bag (F := F) false r L (7 * (L + 1)) c ∗ bag true r L (7 * (L + 1)) c)
      ⊢ (iprop(bag false r (L + 1) (7 * (L + 1)) c ∗ bag true r (L + 1) (7 * (L + 1)) c) : sProp 𝕄) := by
  unfold bag
  rw [← BI.bigSep_sep', ← BI.bigSep_sep']
  exact BI.bigSep_mono fun e he => by
    have := Finset.mem_Ico.mp he
    exact ent_merge r L e _ c (by omega)

theorem Mid_merge (L : ℕ) (c : Dev nD) : Mid L (7 * (L + 1)) c ⊢ (Mid (F := F) (L + 1) (7 * (L + 1)) c : sProp 𝕄) := by
  unfold Mid bag2
  iintro ⟨I0, I1, ⟨B00, B01⟩, ⟨B10, B11⟩, R0, R1, S0, S1, HO, K⟩
  ihave X := bag_merge false L c $$ [B00 B10]
  · isplitl [B00]; · iexact B00
    iexact B10
  icases X with ⟨B00, B10⟩
  ihave X := bag_merge true L c $$ [B01 B11]
  · isplitl [B01]; · iexact B01
    iexact B11
  icases X with ⟨B01, B11⟩
  isplitl [I0]; · iexact I0
  isplitl [I1]; · iexact I1
  isplitl [B00 B01]
  · isplitl [B00]; · iexact B00
    iexact B01
  isplitl [B10 B11]
  · isplitl [B10]; · iexact B10
    iexact B11
  isplitl [R0]; · iexact R0
  isplitl [R1]; · iexact R1
  isplitl [S0]; · iexact S0
  isplitl [S1]; · iexact S1
  isplitl [HO]; · iexact HO
  iexact K

/-! ## A layer -/

/-- What the accumulator's slot holds when layer `l` begins. -/
def accIn (l : ℕ) (c : Dev nD) (v : V F) : Prop :=
  match l with
  | 0 => True
  | l + 1 => v = (arr m (7 * l + 6) (sent m (7 * l + 6)) c).2

/-- All the weights where they are kept. -/
def SRCs (c : Dev nD) : sProp 𝕄 := iprop(SRC m 0 c ∗ SRC m 1 c ∗ SRC m 2 c)

theorem SRCs_at (l : ℕ) (c : Dev nD) (h : l < 3) : SRCs m c ⊢ (iprop(SRC m l c ∗ (SRC m l c -∗ SRCs m c)) : sProp 𝕄) := by
  unfold SRCs
  match l, h with
  | 0, _ =>
    iintro ⟨A, B, C⟩
    isplitl [A]; · iexact A
    iintro A
    isplitl [A]; · iexact A
    isplitl [B]; · iexact B
    iexact C
  | 1, _ =>
    iintro ⟨A, B, C⟩
    isplitl [B]; · iexact B
    iintro B
    isplitl [A]; · iexact A
    isplitl [B]; · iexact B
    iexact C
  | 2, _ =>
    iintro ⟨A, B, C⟩
    isplitl [C]; · iexact C
    iintro C
    isplitl [A]; · iexact A
    isplitl [B]; · iexact B
    iexact C

/-- What device `c` has when layer `l` begins. -/
def St (l : ℕ) (c : Dev nD) : sProp 𝕄 :=
  iprop((∃ v, ⌜accIn m l c v⌝ ∗ PS true (slot (7 * l)) c fullShare v) ∗ AS false (slot (7 * l)) c fullShare ∗ Mid l (7 * l) c
    ∗ (∃ wi wo, WB c wi wo) ∗ WC false l c ∗ WC true l c ∗ XB c (xv m c) ∗ SRCs m c)

theorem wp_firstAct (l : ℕ) (c : Dev nD) (v w : V F) (hv : accIn m l c v) (Q : PUnit → sProp 𝕄) :
    iprop(XB c (xv m c) ∗ PS true (slot (7 * l)) c fullShare v ∗ PS false (slot (7 * l)) c fullShare w)
      ⊢ iprop(((XB c (xv m c) ∗ PS true (slot (7 * l)) c fullShare v ∗ PS false (slot (7 * l)) c fullShare (sent m (7 * l) c).1) -∗ Q ⟨⟩)
        -∗ WP c (firstAct l (7 * l)) Q) := by
  match l, hv with
  | 0, _ =>
    unfold firstAct WP
    simp only [wp_bind]
    iintro ⟨X, P, A⟩ Hk
    iapply (wp_loadX c _ _) $$ X
    iintro X
    iapply (wp_loadSlot false _ c fullShare _ _) $$ A
    iintro A
    iapply (wp_storeSlot false _ c _ _ _) $$ A
    iintro A
    iapply Hk
    isplitl [X]; · iexact X
    isplitl [P]; · iexact P
    iexact A
  | l + 1, hv =>
    have e : nextVal v = (sent m (7 * (l + 1)) c).1 := by
      rw [show 7 * (l + 1) = (7 * l + 6) + 1 by omega, sent_next m c (by omega), show v = _ from hv, fresh_fst]
    rw [← e]
    unfold firstAct WP
    simp only [wp_bind]
    iintro ⟨X, P, A⟩ Hk
    iapply (wp_loadSlot true _ c fullShare _ _) $$ P
    iintro P
    iapply (wp_loadSlot false _ c fullShare _ _) $$ A
    iintro A
    iapply (wp_storeSlot false _ c _ _ _) $$ A
    iintro A
    iapply Hk
    isplitl [X]; · iexact X
    isplitl [P]; · iexact P
    iexact A

theorem sent_snd (l : ℕ) (c : Dev nD) :
    headVal (contrib (sent m (7 * l) c).1 (WI m l c) (WO m l c)) = (sent m (7 * l) c).2 := by
  cases l with
  | zero => rw [Nat.mul_zero, sent, fresh_fst, fresh_snd]
  | succ l =>
    rw [show 7 * (l + 1) = (7 * l + 6) + 1 by omega, sent_next m c (by omega), show (7 * l + 6 + 1) / 7 = l + 1 by omega,
      fresh_fst, fresh_snd]

theorem wp_head (l : ℕ) (c : Dev nD) (h : l < 3) (Q : PUnit → sProp 𝕄) :
    iprop(ctx m ∗ St m l c)
      ⊢ iprop(((Fl m (7 * l) c ∗ WC false (l + 1) c ∗ WC true (l + 1) c ∗ XB c (xv m c) ∗ SRCs m c) -∗ Q ⟨⟩)
        -∗ WP c (head c l (7 * l)) Q) := by
  unfold head St Mid WP
  simp only [wp_bind]
  have hdiv : 7 * l / 7 = l := by omega
  have hf : 7 * l < H false := by have : 7 * l < 21 := by omega
                                  exact this
  have ht : 7 * l < H true := by have : 7 * l < 28 := by omega
                                 exact this
  have hl : lent false (7 * l) = qL := lent_act _
  have hl' : lent true (7 * l) = fullShare := lent_acc (by omega)
  have v2 : headVal (contrib (sent m (7 * l) c).1 (WI m l c) (WO m l c)) = sv m true (7 * l) c := by
    rw [sent_snd, sv_acc m c (by omega)]
  have A : ∀ a b, Above 0 (ob2 false a c + ob2 true b c) := fun a b =>
    Above.add (Above.ob2 false c (by omega)) (Above.ob2 true c (by omega))
  iintro ⟨#Hc, ⟨%v, %hv, P⟩, AS, ⟨I0, I1, B0, B1, R0, R1, S0, S1, HO, K⟩, ⟨%wi, %wo, HW⟩, W0, W1, X, HS⟩ Hk
  ihave HS := SRCs_at m l c h $$ HS
  icases HS with ⟨HS, HS'⟩
  iapply (wp_fetchW m l c _ h (A _ _) wi wo _) $$ [HS HW W0 W1 HO]
  · isplitr; · iexact Hc
    isplitl [HS]; · iexact HS
    isplitl [HW]; · iexact HW
    isplitl [W0]; · iexact W0
    isplitl [W1]; · iexact W1
    iexact HO
  iintro ⟨HS, HW, W0, W1, HO⟩
  ihave HS := HS' $$ HS
  ihave AS := AS_PS _ _ _ _ $$ AS
  icases AS with ⟨%w, AS⟩
  iapply (wp_firstAct m l c v w hv _) $$ [X P AS]
  · isplitl [X]; · iexact X
    isplitl [P]; · iexact P
    iexact AS
  iintro ⟨X, P, PA⟩
  ihave PA := PS_split _ _ _ _ $$ PA
  icases PA with ⟨PL, PR⟩
  rw [add_comm (ob2 false (7 * l) c) (ob2 true (7 * l) c)]
  iapply (wp_startBoth m false (7 * l) c (ob2 true (7 * l) c) _ hf (Above.ob2 true c (by omega)) (sent m (7 * l) c).1 rfl) $$ [PL B0 R0 I0 S0 HO]
  · rw [hl, hdiv]
    isplitr; · iexact Hc
    isplitl [PL]; · iexact PL
    isplitr; · iapply exA2_act; iempintro
    isplitl [I0]; · iexact I0
    isplitl [B0]; · iexact B0
    isplitl [R0]; · iexact R0
    isplitl [S0]; · iexact S0
    iexact HO
  iintro ⟨I0, R0, S0, HO⟩
  iapply (wp_loadSlot false (slot (7 * l)) c qR _ _) $$ PR
  iintro PR
  iapply (wp_loadW c _ _ _) $$ HW
  iintro HW
  iapply (wp_loadSlot true (slot (7 * l)) c fullShare _ _) $$ P
  iintro P
  iapply (wp_storeSlot true (slot (7 * l)) c _ _ _) $$ P
  iintro P
  ihave E := exA_kept (7 * l) c _ $$ PR
  icases E with ⟨E, K'⟩
  rw [add_comm (ob2 true (7 * l) c) (ob2 false (7 * l + 1) c)]
  iapply (wp_startBoth m true (7 * l) c (ob2 false (7 * l + 1) c) _ ht (Above.ob2 false c (by omega)) _ v2) $$ [P E B1 R1 I1 S1 HO]
  · rw [hl', hdiv]
    isplitr; · iexact Hc
    isplitl [P]; · iexact P
    isplitl [E]; · iexact E
    isplitl [I1]; · iexact I1
    isplitl [B1]; · iexact B1
    isplitl [R1]; · iexact R1
    isplitl [S1]; · iexact S1
    iexact HO
  iintro ⟨I1, R1, S1, HO⟩
  iapply Hk
  isplitl [I0 I1 R0 R1 S0 S1 HO K K' HW]
  · unfold Fl
    rw [hdiv]
    isplitl [I0]; · iexact I0
    isplitl [I1]; · iexact I1
    isplitl [R0]; · iexact R0
    isplitl [R1]; · iexact R1
    isplitl [S0]; · iexact S0
    isplitl [S1]; · iexact S1
    isplitl [HO]; · iexact HO
    isplitl [K K']
    · iapply K'; iexact K
    iexact HW
  isplitl [W0]; · iexact W0
  isplitl [W1]; · iexact W1
  isplitl [X]; · iexact X
  iexact HS

theorem wp_layer (l : ℕ) (c : Dev nD) (h : l < 3) (Q : PUnit → sProp 𝕄) :
    iprop(ctx m ∗ St m l c) ⊢ iprop(((ctx m ∗ St m (l + 1) c) -∗ Q ⟨⟩) -∗ WP c (layer c l) Q) := by
  unfold layer WP
  simp only [wp_bind]
  have hop : ∀ i, 7 * l ≤ i → i < 7 * l + 6 → ∀ Q : PUnit → sProp 𝕄,
      iprop(ctx m ∗ Fl m i c) ⊢ iprop(((ctx m ∗ Fl m (i + 1) c) -∗ Q ⟨⟩) -∗ WP c (hop c false i) Q) := by
    intro i h1 h2 Q
    iintro ⟨#Hc, H⟩ Hk
    iapply (wp_hop m i c Q (by omega) (by omega)) $$ [H]
    · isplitr; · iexact Hc
      iexact H
    iintro H
    iapply Hk
    isplitr; · iexact Hc
    iexact H
  have hdiv : (7 * l + 6) / 7 = l := by omega
  iintro ⟨#Hc, H⟩ Hk
  iapply (wp_head m l c h _) $$ [H]
  · isplitr; · iexact Hc
    iexact H
  iintro ⟨H, W0, W1, X, HS⟩
  iapply (wp_seq c (Hop.hop c false) (fun i => iprop(ctx m ∗ Fl m i c)) 6 (7 * l) hop _) $$ [H]
  · isplitr; · iexact Hc
    iexact H
  iintro ⟨-, H⟩
  iapply (wp_hopLast m (7 * l + 6) c _ (by omega)) $$ [H]
  · isplitr; · iexact Hc
    iexact H
  rw [hdiv, show 7 * l + 6 + 1 = 7 * (l + 1) by omega]
  iintro ⟨P, A, M, HW⟩
  ihave M := Mid_merge l c $$ M
  iapply Hk
  isplitr; · iexact Hc
  unfold St
  isplitl [P]
  · iexists _
    isplitr
    rotate_left
    · iexact P
    · ipureintro; rfl
  isplitl [A]; · iexact A
  isplitl [M]; · iexact M
  isplitl [HW]
  · iexists _; iexists _; iexact HW
  isplitl [W0]; · iexact W0
  isplitl [W1]; · iexact W1
  isplitl [X]; · iexact X
  iexact HS

end Cert.KernelIdeal.Hop
-- ==== Proof.Out.lean ====
/- Writing the output: the gathered chunks, half by half. -/
module

public import proofs.«01_k».proof.Proof.Layers

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

local notation "𝕄" => MT nD τ sig ℕ (Elt F) ℕ UU ℕ

variable (m : (ℓ : Loc nD τ sig) → Buf (Elt F) ℓ)

/-! ## What the output holds -/

/-- The chunk that step `j` of device `c` writes the half in direction `r` of. -/
def chunk (c : Dev nD) (r : Bool) (j : ℕ) : ℕ := (bif r then c.val + 5 + j else c.val + 11 - j) % 8

theorem outOff_eq (c : Dev nD) (r : Bool) (j : Fin 8) (a : Fin 2) :
    outOff c r j.val a = (![64 * chunk c r j.val + row0 r, 0] : Fin 2 → ℕ) a := by
  revert c r j a; decide

/-- The device that a half of chunk `q` is completed on. -/
def chunkDev (r : Bool) (q : ℕ) : Dev nD := ⟨(q + bif r then 3 else 5) % 8, Nat.mod_lt _ (by decide)⟩

theorem dnI_chunk (c : Dev nD) (r : Bool) (j : Fin 8) : dnI (!r) j.val c = chunkDev r (chunk c r j.val) := by
  have hc : c.val < 8 := c.isLt
  have hj := j.isLt
  apply Fin.ext
  cases r <;> simp only [dnI, chunk, chunkDev, Bool.not_true, Bool.not_false, cond_true, cond_false] <;> omega

theorem hv_rcv (r : Bool) (p : Dev nD → V F) (c : Dev nD) : hv r (rcv p c) = hv r (p (dn (!r) c)) := by
  cases r
  · exact hv_glue_false _ _
  · exact hv_glue_true _ _

/-- A gathered half is the half that the device it comes from completed. -/
theorem hv_gath (r : Bool) (j : ℕ) : ∀ c, hv r (gath m j c) = hv r (gath m 0 (dnI (!r) j c)) := by
  induction j with
  | zero =>
    intro c
    have hc : c.val < 8 := c.isLt
    have : dnI (!r) 0 c = c := by
      apply Fin.ext; cases r <;> simp only [dnI, Bool.not_true, Bool.not_false, cond_true, cond_false] <;> omega
    rw [this]
  | succ j ih =>
    intro c
    show hv r (rcv (gath m j) c) = _
    rw [hv_rcv, ih, dnI_dn]

/-- The output: row by row the completed chunks. -/
def OUT (i : S512x1024.Idx) : Elt F .f32 :=
  outVal (hv (decide (32 ≤ (i 0).val % 64)) (gath m 0 (chunkDev (decide (32 ≤ (i 0).val % 64)) ((i 0).val / 64))))
    (ix2 (n0 := 32) (n1 := 1024) ⟨(i 0).val % 32, Nat.mod_lt _ (by decide)⟩ (i 1))

theorem OUT_at (c : Dev nD) (r : Bool) (j : Fin 8) (y : S32x1024.Idx) :
    OUT m ((outR c r j).emb y) = outVal (hv r (gath m j.val c)) y := by
  have hy : (y 0).val < 32 := (y 0).isLt
  have e0 : ((outR c r j).emb y 0).val = 64 * chunk c r j.val + row0 r + (y 0).val := by
    show outOff c r j.val 0 + 1 * (y 0).val = _
    rw [outOff_eq]; show 64 * chunk c r j.val + row0 r + 1 * (y 0).val = _; omega
  have e1 : (outR c r j).emb y 1 = y 1 := by
    apply Fin.ext
    show outOff c r j.val 1 + 1 * (y 1).val = _
    rw [outOff_eq]; show 0 + 1 * (y 1).val = _; omega
  have hr : decide (32 ≤ ((outR c r j).emb y 0).val % 64) = r := by
    rw [e0]
    cases r <;> simp only [row0, cond_true, cond_false]
    · exact decide_eq_false (by omega)
    · exact decide_eq_true (by omega)
  have hq : ((outR c r j).emb y 0).val / 64 = chunk c r j.val := by
    rw [e0]; cases r <;> simp only [row0, cond_true, cond_false] <;> omega
  have hi : ix2 (n0 := 32) (n1 := 1024) ⟨((outR c r j).emb y 0).val % 32, Nat.mod_lt _ (by decide)⟩ ((outR c r j).emb y 1) = y := by
    rw [eq_ix2 (n0 := 32) (n1 := 1024) y]
    congr 1
    apply Fin.ext
    show ((outR c r j).emb y 0).val % 32 = (y 0).val
    rw [e0]; cases r <;> simp only [row0, cond_true, cond_false] <;> omega
  unfold OUT
  rw [hr, hq, hi, ← dnI_chunk, ← hv_gath]

theorem out_cover (c : Dev nD) (i : S512x1024.Idx) : ∃ r, ∃ j : Fin 8, i ∈ (outR c r j).set := by
  have h0 : (i 0).val < 512 := (i 0).isLt
  have h1 : (i 1).val < 1024 := (i 1).isLt
  have hc : c.val < 8 := c.isLt
  by_cases h : 32 ≤ (i 0).val % 64
  · refine ⟨true, ⟨((i 0).val / 64 + 11 - c.val) % 8, Nat.mod_lt _ (by decide)⟩, ?_⟩
    rw [Rect.mem_set_unit]
    intro a
    rw [outOff_eq]
    match a with
    | 0 =>
      show 64 * ((c.val + 5 + ((i 0).val / 64 + 11 - c.val) % 8) % 8) + 32 ≤ (i 0).val
        ∧ (i 0).val < 64 * ((c.val + 5 + ((i 0).val / 64 + 11 - c.val) % 8) % 8) + 32 + 32
      omega
    | 1 => show 0 ≤ (i 1).val ∧ (i 1).val < 0 + 1024; omega
  · refine ⟨false, ⟨(c.val + 11 - (i 0).val / 64) % 8, Nat.mod_lt _ (by decide)⟩, ?_⟩
    rw [Rect.mem_set_unit]
    intro a
    rw [outOff_eq]
    match a with
    | 0 =>
      show 64 * ((c.val + 11 - (c.val + 11 - (i 0).val / 64) % 8) % 8) + 0 ≤ (i 0).val
        ∧ (i 0).val < 64 * ((c.val + 11 - (c.val + 11 - (i 0).val / 64) % 8) % 8) + 0 + 32
      omega
    | 1 => show 0 ≤ (i 1).val ∧ (i 1).val < 0 + 1024; omega

/-! ## Writing it -/

/-- The rows written by the steps before `j`. -/
def done (c : Dev nD) (j : ℕ) (i : S512x1024.Idx) : Prop := ∃ r, ∃ j' : Fin 8, j'.val < j ∧ i ∈ (outR c r j').set

/-- The staged output, holding at the elements in `p` what it is to hold. -/
def OB (c : Dev nD) (p : S512x1024.Idx → Prop) : sProp 𝕄 :=
  iprop(∃ g : Buf (Elt F) (oM.view.loc (c : Thread nD τ)), ⌜∀ i, p i → g i = OUT m i⌝ ∗ (oM.view.loc (c : Thread nD τ) ↦{fullShare} g))

theorem OB_mono (c : Dev nD) {p p' : S512x1024.Idx → Prop} (h : ∀ i, p' i → p i) : OB m c p ⊢ (OB m c p' : sProp 𝕄) := by
  unfold OB
  iintro ⟨%g, %hg, H⟩
  iexists g
  isplitr
  · ipureintro; exact fun i hi => hg i (h i hi)
  iexact H

theorem write_out (R : Rect S512x1024) (g : oM.view.ty.Contents (Elt F)) (w : R.shape.Idx → Elt F .f32)
    (hw : ∀ y, w y = OUT m (R.emb y)) (i : S512x1024.Idx) :
    (oM.access R).write (Elt F) g w Finset.univ i = OUT m i ∨ (oM.access R).write (Elt F) g w Finset.univ i = g i ∧ i ∉ R.set := by
  by_cases hi : i ∈ R.set
  · left
    obtain ⟨y, rfl⟩ : ∃ y, R.emb y = i := by
      have := Finset.mem_map.mp (R.map_emb_univ.symm ▸ hi)
      obtain ⟨y, -, e⟩ := this
      exact ⟨y, e⟩
    have := View.write_emb_of_mem (v := oM.access R) g w (M := Finset.univ) (x := y) (Finset.mem_univ y)
    refine Eq.trans this ?_
    exact hw y
  · right
    refine ⟨View.write_of_not_mem (v := oM.access R) g w Finset.univ ?_, hi⟩
    intro h
    obtain ⟨y, -, e⟩ := Finset.mem_map.mp h
    exact hi (R.map_emb_univ ▸ Finset.mem_map.mpr ⟨y, Finset.mem_univ _, e⟩)

theorem wp_outHalf (c : Dev nD) (r : Bool) (j : Fin 8) (s : Fin 8) (q : PosShare TreeShare) (p : S512x1024.Idx → Prop)
    (Q : PUnit → sProp 𝕄) :
    iprop(PT true r s c q (hv r (gath m j.val c)) ∗ OB m c p)
      ⊢ iprop(((PT true r s c q (hv r (gath m j.val c)) ∗ OB m c (fun i => p i ∨ i ∈ (outR c r j).set)) -∗ Q ⟨⟩)
        -∗ WP c (outHalf c r j s) Q) := by
  have hset : (half true r s).view.set = ((buf true).access (halfR r s)).set := half_set true r s
  unfold outHalf PT OB WP
  simp only [Prog.lift, Prog.bind_op, Prog.bind_ret]
  iintro ⟨⟨%f, %hf, H⟩, ⟨%g, %hg, HG⟩⟩ Hk
  iapply (wp_load_rect 𝒱₀ (c : Thread nD τ) none Set.univ (m := buf true) (r := halfR r s) (S := (half true r s).view.set) (q := q) (f := f)
    (by rw [hset])) $$ H
  iintro H
  iapply (wp_load 𝒱₀ (c : Thread nD τ) none Set.univ (m := oM) (S := Finset.univ) (Finset.subset_univ _)) $$ HG
  iintro HG
  iapply (wp_store 𝒱₀ (c : Thread nD τ) none Set.univ (m := oM) (r := outR c r j) (Mk := Finset.univ) (S := Finset.univ) (f := g)
    (w := outVal ((hview true r s).read (Elt F) f)) (Finset.subset_univ _)) $$ HG
  iintro HG
  rw [wp_ret]; imodintro
  iapply Hk
  isplitl [H]
  · iexists f
    isplitr
    · ipureintro; exact hf
    iexact H
  · iexists ((oM.access (outR c r j)).write (Elt F) g (outVal ((hview true r s).read (Elt F) f)) Finset.univ)
    isplitr
    · ipureintro
      intro i hi
      have hw := write_out m (outR c r j) g (outVal ((hview true r s).read (Elt F) f)) (fun y => by rw [hf, OUT_at]) i
      rcases hw with hw | ⟨hw, hn⟩
      · exact hw
      · exact hw.trans (hg i (hi.resolve_right hn))
    iexact HG

theorem wp_outBoth (c : Dev nD) (j : ℕ) (hj : j < 8) (s : Fin 8) (q : PosShare TreeShare) (Q : PUnit → sProp 𝕄) :
    iprop(PS true s c q (gath m j c) ∗ OB m c (done c j))
      ⊢ iprop(((PS true s c q (gath m j c) ∗ OB m c (done c (j + 1))) -∗ Q ⟨⟩) -∗ WP c (outBoth c (slot j) s) Q) := by
  have hs : (slot j).val = j := Nat.mod_eq_of_lt hj
  have h0 := fun p Q => wp_outHalf m c false (slot j) s q p Q
  have h1 := fun p Q => wp_outHalf m c true (slot j) s q p Q
  rw [hs] at h0 h1
  unfold outBoth PS WP
  rw [wp_bind]
  iintro ⟨⟨H, H'⟩, HG⟩ Hk
  iapply (h0 _ _) $$ [H HG]
  · isplitl [H]; · iexact H
    iexact HG
  iintro ⟨H, HG⟩
  iapply (h1 _ _) $$ [H' HG]
  · isplitl [H']; · iexact H'
    iexact HG
  iintro ⟨H', HG⟩
  iapply Hk
  isplitl [H H']
  · isplitl [H]; · iexact H
    iexact H'
  iapply (OB_mono m c (p' := done c (j + 1)) ?_) $$ HG
  rintro i ⟨r, j', hj', hi⟩
  by_cases h : j'.val < j
  · exact .inl (.inl ⟨r, j', h, hi⟩)
  · obtain rfl : j' = slot j := Fin.ext (by rw [hs]; omega)
    cases r
    · exact .inl (.inr hi)
    · exact .inr hi

/-- When every step is done the output holds what it is to hold. -/
theorem OB_all (c : Dev nD) : OB m c (done c 8) ⊢ (oM.view.loc (c : Thread nD τ) ↦{fullShare} OUT m : sProp 𝕄) := by
  unfold OB
  iintro ⟨%g, %hg, H⟩
  have : g = OUT m := funext fun i => by
    obtain ⟨r, j, h⟩ := out_cover c i
    exact hg i ⟨r, j, j.isLt, h⟩
  subst this
  iexact H

end Cert.KernelIdeal.Hop
-- ==== Proof.Tail.lean ====
/- The final gathering, the waits at the end, the entry, and the whole program. -/
module

public import proofs.«01_k».proof.Proof.Out

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The gathering -/

/-- The right shares of the accumulators from hop 21 on. -/
def keptG (n : ℕ) (c : Dev nD) : sProp 𝕄 := bigSep (Finset.Ico 21 n) (fun i => AS (F := F) true (slot i) c qR)

theorem keptG_put {n : ℕ} (c : Dev nD) (h : 21 ≤ n) (v : V F) :
    iprop(PS true (slot n) c qR v ∗ keptG n c) ⊢ (keptG (F := F) (n + 1) c : sProp 𝕄) := by
  unfold keptG
  rw [bigSep_Ico_succ_top h]
  iintro ⟨H, H'⟩
  isplitl [H]
  · iapply PS_AS; iexact H
  iexact H'

theorem exA2_gath {n : ℕ} (c : Dev nD) (h : 14 ≤ n) : (emp : sProp 𝕄) ⊢ exA2 (F := F) true n c := by
  unfold exA2 exA
  rw [if_neg fun e => absurd e.2 (by omega), if_neg fun e => absurd e.2 (by omega)]
  iintro -; isplitr <;> iempintro

theorem Above.act_end (v : ℕ) (c : Dev nD) : Above v (Hop.ob2 false 21 c) := by
  unfold Hop.ob2
  rw [ob_end false false (n := 21) c (by decide), ob_end false true (n := 21) c (by decide), add_zero]
  exact Above.zero v

/-- What device `c` has while hop `20 + j` of the accumulator's ring is under way in the gathering. -/
def Gs (j : ℕ) (c : Dev nD) : sProp 𝕄 :=
  iprop(init2 (F := F) true (21 + j) c ∗ RW2 true (20 + j) c ∗ SW2 true (21 + j) (21 + j - 8) c
    ∗ OW c (ob2 false 21 c + ob2 true (21 + j) c) ∗ keptG (21 + j) c ∗ OB m c (done c j))

theorem gath_arrives {j : ℕ} (c : Dev nD) (h : 1 ≤ j) : rcv (sv m true (20 + j)) c = gath m j c := by
  obtain ⟨i, rfl⟩ : ∃ i, j = i + 1 := ⟨j - 1, by omega⟩
  have : ∀ d, sv m true (20 + (i + 1)) d = gath m i d := fun d => by
    rw [show 20 + (i + 1) = 21 + i by omega, sv_gath]
  show _ = rcv (gath m i) c
  unfold rcv
  rw [this, this]

theorem wp_gather (j : ℕ) (c : Dev nD) (h1 : 1 ≤ j) (h7 : j < 7) (Q : PUnit → sProp 𝕄) :
    iprop(ctx m ∗ Gs m j c) ⊢ iprop((Gs m (j + 1) c -∗ Q ⟨⟩) -∗ WP c (gather c false j) Q) := by
  unfold gather startUnless Gs WP
  simp only [wp_bind, cond_false]
  have hr : 20 + j < H true := by have : 20 + j < 28 := by omega
                                  exact this
  have hn : 21 + j < H true := by have : 21 + j < 28 := by omega
                                  exact this
  have e1 : 20 + j + 1 = 21 + j := by omega
  have e2 : (20 + j) / 7 = 3 - (if j = 0 then 1 else 0) := by split <;> omega
  have e3 : (20 + j) / 7 = (21 + j) / 7 := by omega
  have A1 : Above (2 * (20 + j) + 2 + true.toNat) (ob2 false 21 c + ob2 true (21 + j) c) :=
    Above.add (Above.act_end _ c) (Above.ob2 true c (by simp <;> omega))
  have v1 : gath m j c = sv m true (21 + j) c := (sv_gath m j c).symm
  iintro ⟨#Hc, I, R, S, HO, K, HB⟩ Hk
  iapply (wp_recvBoth m true (20 + j) c _ _ hr A1) $$ [R HO]
  · isplitr; · iexact Hc
    isplitl [R]; · iexact R
    iexact HO
  rw [e1, gath_arrives m c h1]
  iintro ⟨P, B, R, HO⟩
  ihave P := PS_split _ _ _ _ $$ P
  icases P with ⟨PL, PR⟩
  iapply (wp_startBoth m true (21 + j) c (ob2 false 21 c) _ hn (Above.act_end _ c) (gath m j c) v1) $$ [PL B R I S HO]
  · rw [lent_gath (show 21 ≤ 21 + j by omega), ← e3]
    isplitr; · iexact Hc
    isplitl [PL]; · iexact PL
    isplitr; · iapply exA2_gath c (show 14 ≤ 21 + j by omega); iempintro
    isplitl [I]; · iexact I
    isplitl [B]; · iexact B
    isplitl [R]; · iexact R
    isplitl [S]; · iexact S
    iexact HO
  iintro ⟨I, R, S, HO⟩
  iapply (wp_outBoth m c j (by omega) (slot (21 + j)) qR _) $$ [PR HB]
  · isplitl [PR]; · iexact PR
    iexact HB
  iintro ⟨PR, HB⟩
  iapply Hk
  rw [show 21 + (j + 1) = 21 + j + 1 by omega, show 20 + (j + 1) = 21 + j by omega]
  isplitl [I]; · iexact I
  isplitl [R]; · iexact R
  isplitl [S]; · iexact S
  isplitl [HO]; · iexact HO
  isplitl [PR K]
  · iapply keptG_put c (show 21 ≤ 21 + j by omega) _
    isplitl [PR]; · iexact PR
    iexact K
  iexact HB

theorem wp_gatherLast (c : Dev nD) (Q : PUnit → sProp 𝕄) :
    iprop(ctx m ∗ Gs m 7 c)
      ⊢ iprop(((AS true (slot 28) c fullShare ∗ RW2 true 28 c ∗ SW2 true 28 20 c ∗ OW c (ob2 false 21 c + ob2 true 28 c) ∗ keptG 28 c
        ∗ OB m c (done c 8)) -∗ Q ⟨⟩) -∗ WP c (gather c true 7) Q) := by
  unfold gather startUnless Gs WP
  simp only [wp_bind, cond_true, Prog.pure_eq_ret, wp_ret]
  have A1 : Above (2 * 27 + 2 + true.toNat) (ob2 false 21 c + ob2 true 28 c) :=
    Above.add (Above.act_end _ c) (Above.ob2 true c (by simp))
  have v1 := gath_arrives m c (show 1 ≤ 7 by decide)
  iintro ⟨#Hc, I, R, S, HO, K, HB⟩ Hk
  iapply (wp_recvBoth m true 27 c _ _ (by decide) A1) $$ [R HO]
  · isplitr; · iexact Hc
    isplitl [R]; · iexact R
    iexact HO
  rw [show rcv (sv m true 27) c = gath m 7 c from v1]
  iintro ⟨P, B, R, HO⟩
  imodintro
  iapply (wp_outBoth m c 7 (by decide) (slot 28) fullShare _) $$ [P HB]
  · isplitl [P]; · iexact P
    iexact HB
  iintro ⟨P, HB⟩
  iapply Hk
  isplitl [P]
  · iapply PS_AS; iexact P
  isplitl [R]; · iexact R
  isplitl [S]; · iexact S
  isplitl [HO]; · iexact HO
  isplitl [K]; · iexact K
  iexact HB

/-! ## The last departures -/

/-- The waits for the last eight hops of a ring: seven of them give back the share their transfer took. -/
theorem wp_drain (k r : Bool) (n : ℕ) (hn : n + 8 = H k) (c : Dev nD) (O : CellTallies nD τ sig ℕ) (hO : Above 0 O) (Q : PUnit → sProp 𝕄) :
    iprop(ctx m ∗ SW k r (n + 8) n c ∗ OW c O)
      ⊢ iprop(((SW k r (n + 8) (n + 8) c ∗ OW c O ∗ bigSep (Finset.Ico (n + 1) (n + 8)) (fun i => AP (F := F) k r (slot i) c qL)) -∗ Q ⟨⟩)
        -∗ WP c (drain k r n) Q) := by
  have put : ∀ i, n ≤ i → iprop(sendPay (F := F) k r i c ∗ bigSep (Finset.Ico (n + 1) i) (fun i => AP (F := F) k r (slot i) c qL))
      ⊢ (bigSep (Finset.Ico (n + 1) (i + 1)) (fun i => AP (F := F) k r (slot i) c qL) : sProp 𝕄) := by
    intro i h1
    unfold sendPay
    by_cases h : i + 7 < H k
    · rw [if_pos h, Finset.Ico_eq_empty_of_le (show i + 1 ≤ n + 1 by omega), Finset.Ico_eq_empty_of_le (show i ≤ n + 1 by omega)]
      iintro ⟨-, H⟩
      iexact H
    · rw [if_neg h, bigSep_Ico_succ_top (show n + 1 ≤ i by omega)]
  have step : ∀ i, n ≤ i → i < n + 8 → ∀ Q : PUnit → sProp 𝕄,
      iprop(ctx m ∗ SW k r (n + 8) i c ∗ OW c O ∗ bigSep (Finset.Ico (n + 1) i) (fun i => AP (F := F) k r (slot i) c qL))
        ⊢ iprop((iprop(ctx m ∗ SW k r (n + 8) (i + 1) c ∗ OW c O
            ∗ bigSep (Finset.Ico (n + 1) (i + 1)) (fun i => AP (F := F) k r (slot i) c qL)) -∗ Q ⟨⟩)
          -∗ WP c (waitSend k r i) Q) := by
    intro i h1 h2 Q
    iintro ⟨#Hc, HS, HO, HB⟩ Hk
    iapply (wp_waitSend m k r (n + 8) i c O Q (by omega) h2 hO) $$ [HS HO]
    · isplitr; · iexact Hc
      isplitl [HS]; · iexact HS
      iexact HO
    iintro ⟨HP, HS, HO⟩
    iapply Hk
    isplitr; · iexact Hc
    isplitl [HS]; · iexact HS
    isplitl [HO]; · iexact HO
    iapply put i h1
    isplitl [HP]; · iexact HP
    iexact HB
  unfold drain
  iintro ⟨#Hc, HS, HO⟩ Hk
  iapply (wp_seq c (waitSend k r) (fun i => iprop(ctx m ∗ SW k r (n + 8) i c ∗ OW c O
    ∗ bigSep (Finset.Ico (n + 1) i) (fun i => AP (F := F) k r (slot i) c qL))) 8 n step Q) $$ [HS HO]
  · isplitr; · iexact Hc
    isplitl [HS]; · iexact HS
    isplitl [HO]; · iexact HO
    rw [Finset.Ico_eq_empty_of_le (show n ≤ n + 1 by omega), bigSep_empty]
    iempintro
  iintro ⟨-, H⟩
  iapply Hk
  iexact H

/-! ## The entry -/

/-- What the entry uses. -/
def Ein (c : Dev nD) : sProp 𝕄 :=
  iprop(OW (F := F) c (O₀ c) ∗ dutyTok ER (barCell (dn true c)) 0 false ∗ dutyTok ER (barCell (dn false c)) 0 true
    ∗ barPay false (dn true c) ∗ barPay true (dn false c) ∗ pos (barCell c) 0 ∗ cred (tallyAt (barCell c) 0 2))

theorem wp_enter (c : Dev nD) (Q : PUnit → sProp 𝕄) :
    iprop(ctx m ∗ Ein c)
      ⊢ iprop(((barPay false c ∗ barPay true c ∗ OW c (O₁ c) ∗ pos (barCell c) 1) -∗ Q ⟨⟩) -∗ WP c (enter c) Q) := by
  have e1 := dev1_eq c
  have e2 := dev2_eq c
  unfold enter Ein WP
  rw [e1, e2]
  simp only [semSignalWord, semWaitWord, Prog.lift, Prog.bind_op, Prog.bind_ret, Prog.pure_eq_ret]
  unfold OW pos
  iintro ⟨#Hc, ⟨%W, HO⟩, T1, T2, B1, B2, ⟨Hat, -⟩, Hcr⟩ Hk
  ihave H1 := ctx_cell m (dn true c) (.reg barS) ⟨66, csem_bar⟩ $$ Hc
  icases H1 with ⟨⟨%κ₁, #Hi1⟩, #Hr1⟩
  ihave H2 := ctx_cell m (dn false c) (.reg barS) ⟨66, csem_bar⟩ $$ Hc
  icases H2 with ⟨⟨%κ₂, #Hi2⟩, #Hr2⟩
  ihave H3 := ctx_cell m c (.reg barS) ⟨66, csem_bar⟩ $$ Hc
  icases H3 with ⟨⟨%κ₃, #Hi3⟩, -⟩
  iapply (Rounds.wp_signal 𝒱₀ ER (Rd m) (c : Thread nD τ) none (dst := (dn true c : Thread nD τ)) (κ := κ₁) (d := false)
    (by rw [duties_bar]; exact Finset.mem_univ _) ((amount_bar m _ _ _).trans (by decide)) 0 (O₁ c + tallyAt (barCell (dn false c)) 0 1) rfl) $$ [HO T1 B1]
  · isplitr; · iexact Hi1
    isplitl [HO]; · iexact HO
    isplitl [T1]; · iexact T1
    isplitl [B1]; · irw [payload_bar]; iexact B1
    iexact Hr1
  iintro HO
  iapply (Rounds.wp_signal 𝒱₀ ER (Rd m) (c : Thread nD τ) none (dst := (dn false c : Thread nD τ)) (κ := κ₂) (d := true)
    (by rw [duties_bar]; exact Finset.mem_univ _) ((amount_bar m _ _ _).trans (by decide)) 0 (O₁ c) rfl) $$ [HO T2 B2]
  · isplitr; · iexact Hi2
    isplitl [HO]; · iexact HO
    isplitl [T2]; · iexact T2
    isplitl [B2]; · irw [payload_bar]; iexact B2
    iexact Hr2
  iintro HO
  iapply (Rounds.wp_wait_rest_token 𝒱₀ ER (Rd m) (c : Thread nD τ) none (κ := κ₃)
      (wpE_semWait_eq 𝒱₀ (c : Thread nD τ) none Set.univ) (Set.mem_univ _) 0 (O := O₁ c) (R := 0) (m := 0) (T := ∅)
      (by rw [Nat.zero_add, expect_bar]; rfl)) $$ [Hcr HO Hat]
  · isplitr; · iexact Hi3
    isplitl [Hcr]; · iexact Hcr
    isplitl [HO]; · iexact HO
    isplitr
    · iapply (mayWait c _ 0 (O₁ c) (by decide) (Above.O₁ c) (le_of_eq (lv_bar c 0)))
      iapply ctx_levs m
      iexact Hc
    iexact Hat
  iintro ⟨HO, Hat, Hr, Hpay⟩
  ihave Hpay := (Entails.of_eq (rest_bar m c)) $$ Hpay
  icases Hpay with ⟨P1, P2⟩
  rw [wp_ret]; imodintro
  iapply Hk
  isplitl [P1]; · iexact P1
  isplitl [P2]; · iexact P2
  isplitl [HO]; · iexists _; iexact HO
  isplitl [Hat]; · iexact Hat
  iexact Hr

end Cert.KernelIdeal.Hop
-- ==== Proof.Main.lean ====
/- The whole program of one device. -/
module

public import proofs.«01_k».proof.Proof.Tail

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Eight consecutive numbers are all the slots -/

theorem bigSep_slots (Φ : Fin 8 → sProp 𝕄) (n : ℕ) : bigSep (Finset.Ico n (n + 8)) (fun i => Φ (slot i)) = bigSep Finset.univ Φ := by
  induction n with
  | zero =>
    have e : Finset.Ico 0 (0 + 8) = (Finset.univ : Finset (Fin 8)).map Fin.valEmbedding := by decide
    rw [e, BI.bigSep_map]
    exact bigSep_congr fun s _ => by
      show Φ (slot s.val) = Φ s
      rw [slot_val]
  | succ n ih =>
    rw [← ih, bigSep_Ico_succ_bot (show n < n + 8 by omega), show n + 1 + 8 = (n + 8) + 1 by omega,
      bigSep_Ico_succ_top (show n + 1 ≤ n + 8 by omega), slot_add]

/-- The shares of a slot put together. -/
theorem AS_join (k : Bool) (s : Fin 8) (c : Dev nD) :
    iprop(AS k s c qR ∗ AP k false s c qL ∗ AP k true s c qL) ⊢ (AS (F := F) k s c fullShare : sProp 𝕄) := by
  unfold AS
  iintro ⟨⟨R0, R1⟩, L0, L1⟩
  isplitl [R0 L0]
  · iapply AP_join
    isplitl [L0]; · iexact L0
    iexact R0
  · iapply AP_join
    isplitl [L1]; · iexact L1
    iexact R1

/-- A whole ring buffer, at any contents. -/
def All (k : Bool) (c : Dev nD) : sProp 𝕄 :=
  iprop(∃ f : Buf (Elt F) ((buf k).view.loc (c : Thread nD τ)), ((buf k).view.loc (c : Thread nD τ) ↦[(buf k).view.set]{fullShare} f))

/-- The last seven slots' shares and the last slot make a ring's buffer. -/
theorem All_intro (k : Bool) (n : ℕ) (c : Dev nD) :
    iprop(bigSep (Finset.Ico n (n + 7)) (fun i => AS (F := F) k (slot i) c qR)
        ∗ bigSep (Finset.Ico n (n + 7)) (fun i => AP (F := F) k false (slot i) c qL)
        ∗ bigSep (Finset.Ico n (n + 7)) (fun i => AP (F := F) k true (slot i) c qL)
        ∗ AS (F := F) k (slot (n + 7)) c fullShare)
      ⊢ (All k c : sProp 𝕄) := by
  have h1 : iprop(bigSep (Finset.Ico n (n + 7)) (fun i => AS (F := F) k (slot i) c qR)
        ∗ bigSep (Finset.Ico n (n + 7)) (fun i => AP (F := F) k false (slot i) c qL)
        ∗ bigSep (Finset.Ico n (n + 7)) (fun i => AP (F := F) k true (slot i) c qL))
      ⊢ (bigSep (Finset.Ico n (n + 7)) (fun i => AS (F := F) k (slot i) c fullShare) : sProp 𝕄) := by
    rw [← BI.bigSep_sep', ← BI.bigSep_sep']
    exact BI.bigSep_mono fun i _ => AS_join k _ c
  have h2 : iprop(bigSep (Finset.Ico n (n + 7)) (fun i => AS (F := F) k (slot i) c fullShare) ∗ AS (F := F) k (slot (n + 7)) c fullShare)
      ⊢ (bigSep (Finset.univ : Finset (Bool × Fin 8)) (fun p => AP (F := F) k p.1 p.2 c fullShare) : sProp 𝕄) := by
    have e := bigSep_slots (fun s => AS (F := F) k s c fullShare) n
    rw [show n + 8 = (n + 7) + 1 by omega, bigSep_Ico_succ_top (show n ≤ n + 7 by omega)] at e
    have e2 : (bigSep (Finset.univ : Finset (Bool × Fin 8)) (fun p => AP (F := F) k p.1 p.2 c fullShare) : sProp 𝕄)
        = bigSep Finset.univ (fun s => AS (F := F) k s c fullShare) := by
      rw [BI.bigSep_univ_prod, bigSep_univ_eq_bigSepL [false, true] (by decide) (by decide), bigSepL_cons_cons, bigSepL_singleton]
      unfold AS
      rw [BI.bigSep_sep']
      rfl
    rw [e2, ← e]
    iintro ⟨H, H'⟩
    isplitl [H']; · iexact H'
    iexact H
  iintro ⟨A, B, C, D⟩
  ihave A := h1 $$ [A B C]
  · isplitl [A]; · iexact A
    isplitl [B]; · iexact B
    iexact C
  ihave A := h2 $$ [A D]
  · isplitl [A]; · iexact A
    iexact D
  ihave A := whole_join k c $$ A
  unfold All
  iexact A

/-! ## The program -/

/-- What a device's program uses. -/
def Pin (c : Dev nD) : sProp 𝕄 :=
  iprop(Ein (F := F) c ∗ AS false (slot 0) c fullShare ∗ AS true (slot 0) c fullShare
    ∗ RW2 false 0 c ∗ RW2 true 0 c ∗ SW2 false 0 0 c ∗ SW2 true 0 0 c
    ∗ (∃ wi wo, WB c wi wo) ∗ WC false 0 c ∗ WC true 0 c ∗ XB c (xv m c) ∗ SRCs m c ∗ OB m c (done c 0))

/-- What it leaves. -/
def Pout (c : Dev nD) : sProp 𝕄 :=
  iprop(All (F := F) false c ∗ All true c ∗ RW2 false 21 c ∗ RW2 true 28 c ∗ SW2 false 21 21 c ∗ SW2 true 28 28 c
    ∗ OW c 0 ∗ pos (barCell c) 1
    ∗ (∃ wi wo, WB c wi wo) ∗ WC false 3 c ∗ WC true 3 c ∗ XB c (xv m c) ∗ SRCs m c
    ∗ (oM.view.loc (c : Thread nD τ) ↦{fullShare} OUT m))

theorem bag_zero (k r : Bool) (c : Dev nD) : (emp : sProp 𝕄) ⊢ bag (F := F) k r 0 0 c := by
  unfold bag
  have : (bigSep (Finset.Ico 0 (0 + 7)) (ent (F := F) k r 0 0 c) : sProp 𝕄) = bigSep (Finset.Ico 0 (0 + 7)) (fun _ => iprop(emp)) :=
    bigSep_congr fun e he => by
      have := Finset.mem_Ico.mp he
      unfold ent; rw [if_neg fun h => absurd h.1 (by omega)]
  rw [this]
  exact Entails.of_eq (BI.bigSep_emp_const _).symm

/-- After the entry the first layer begins. -/
theorem St_zero (c : Dev nD) :
    iprop((barPay false c ∗ barPay true c ∗ OW c (O₁ c)) ∗ AS false (slot 0) c fullShare ∗ AS true (slot 0) c fullShare
      ∗ RW2 false 0 c ∗ RW2 true 0 c ∗ SW2 false 0 0 c ∗ SW2 true 0 0 c
      ∗ (∃ wi wo, WB c wi wo) ∗ WC false 0 c ∗ WC true 0 c ∗ XB c (xv m c) ∗ SRCs m c) ⊢ (St m 0 c : sProp 𝕄) := by
  unfold St Mid barPay
  iintro ⟨⟨⟨I00, I10⟩, ⟨I01, I11⟩, HO⟩, A0, A1, R0, R1, S0, S1, HW, W0, W1, X, HS⟩
  ihave A1 := AS_PS _ _ _ _ $$ A1
  icases A1 with ⟨%v, A1⟩
  isplitl [A1]
  · iexists v
    isplitr; · ipureintro; exact trivial
    iexact A1
  isplitl [A0]; · iexact A0
  isplitl [I00 I10 I01 I11 HO R0 R1 S0 S1]
  · unfold init2 bag2
    isplitl [I00 I01]
    · isplitl [I00]; · iexact I00
      iexact I01
    isplitl [I10 I11]
    · isplitl [I10]; · iexact I10
      iexact I11
    isplitr
    · isplitr
      · iapply bag_zero; iempintro
      · iapply bag_zero; iempintro
    isplitr
    · isplitr
      · iapply bag_zero; iempintro
      · iapply bag_zero; iempintro
    isplitl [R0]; · iexact R0
    isplitl [R1]; · iexact R1
    isplitl [S0]; · iexact S0
    isplitl [S1]; · iexact S1
    isplitl [HO]; · iexact HO
    unfold kept
    rw [Finset.Ico_eq_empty_of_le (show 7 * 0 ≤ 14 by omega), bigSep_empty]
    iempintro
  isplitl [HW]; · iexact HW
  isplitl [W0]; · iexact W0
  isplitl [W1]; · iexact W1
  isplitl [X]; · iexact X
  iexact HS

theorem ob_all (c : Dev nD) : (ob2 false 21 c + ob2 true 28 c : CellTallies nD τ sig ℕ) = 0 := by
  unfold ob2
  rw [ob_end false false (n := 21) c (by decide), ob_end false true (n := 21) c (by decide),
    ob_end true false (n := 28) c (by decide), ob_end true true (n := 28) c (by decide), add_zero, add_zero]

theorem wp_main (c : Dev nD) (Q : PUnit → sProp 𝕄) :
    iprop(ctx m ∗ Pin m c) ⊢ iprop((Pout m c -∗ Q ⟨⟩) -∗ WP c (main c) Q) := by
  have layers : ∀ i, 0 ≤ i → i < 0 + 3 → ∀ Q : PUnit → sProp 𝕄,
      iprop(ctx m ∗ St m i c) ⊢ iprop((iprop(ctx m ∗ St m (i + 1) c) -∗ Q ⟨⟩) -∗ WP c (layer c i) Q) :=
    fun i _ h Q => wp_layer m i c (by omega) Q
  have gathers : ∀ i, 1 ≤ i → i < 1 + 6 → ∀ Q : PUnit → sProp 𝕄,
      iprop(ctx m ∗ Gs m i c) ⊢ iprop((iprop(ctx m ∗ Gs m (i + 1) c) -∗ Q ⟨⟩) -∗ WP c (gather c false i) Q) := by
    intro i h1 h2 Q
    iintro ⟨#Hc, H⟩ Hk
    iapply (wp_gather m i c h1 (by omega) Q) $$ [H]
    · isplitr; · iexact Hc
      iexact H
    iintro H
    iapply Hk
    isplitr; · iexact Hc
    iexact H
  have A0 : Above 0 (ob2 false 21 c + ob2 true 28 c) := by rw [ob_all]; exact Above.zero 0
  unfold main Pin WP
  simp only [wp_bind]
  iintro ⟨#Hc, HE, A0', A1', R0, R1, S0, S1, HW, W0, W1, X, HS, HB⟩ Hk
  iapply (wp_enter m c _) $$ [HE]
  · isplitr; · iexact Hc
    iexact HE
  iintro ⟨P0, P1, HO, Hbar⟩
  ihave H := St_zero m c $$ [P0 P1 HO A0' A1' R0 R1 S0 S1 HW W0 W1 X HS]
  · isplitl [P0 P1 HO]
    · isplitl [P0]; · iexact P0
      isplitl [P1]; · iexact P1
      iexact HO
    isplitl [A0']; · iexact A0'
    isplitl [A1']; · iexact A1'
    isplitl [R0]; · iexact R0
    isplitl [R1]; · iexact R1
    isplitl [S0]; · iexact S0
    isplitl [S1]; · iexact S1
    isplitl [HW]; · iexact HW
    isplitl [W0]; · iexact W0
    isplitl [W1]; · iexact W1
    isplitl [X]; · iexact X
    iexact HS
  iapply (wp_seq c (layer c) (fun i => iprop(ctx m ∗ St m i c)) 3 0 layers _) $$ [H]
  · isplitr; · iexact Hc
    iexact H
  iintro ⟨-, H⟩
  unfold St Mid
  icases H with ⟨⟨%v, %hv, P⟩, HA, ⟨-, I, -, B, R0, R1, S0, S1, HO, K⟩, HW, W0, W1, X, HS⟩
  have hv' : v = gath m 0 c := hv
  subst hv'
  iapply (wp_outBoth m c 0 (by decide) (slot 21) fullShare _) $$ [P HB]
  · isplitl [P]; · iexact P
    iexact HB
  iintro ⟨P, HB⟩
  ihave P := PS_split _ _ _ _ $$ P
  icases P with ⟨PL, PR⟩
  iapply (wp_startBoth m true 21 c (ob2 false 21 c) _ (by decide) (Above.act_end _ c) (gath m 0 c) (sv_gath m 0 c).symm) $$ [PL B I R1 S1 HO]
  · rw [lent_gath (show 21 ≤ 21 by decide)]
    isplitr; · iexact Hc
    isplitl [PL]; · iexact PL
    isplitr; · iapply exA2_gath c (show 14 ≤ 21 by decide); iempintro
    isplitl [I]; · iexact I
    isplitl [B]; · iexact B
    isplitl [R1]; · iexact R1
    isplitl [S1]; · iexact S1
    iexact HO
  iintro ⟨I, R1, S1, HO⟩
  ihave KG := keptG_put (n := 21) c (le_refl _) _ $$ [PR]
  · isplitl [PR]; · iexact PR
    unfold keptG
    rw [Finset.Ico_eq_empty_of_le (le_refl 21), bigSep_empty]
    iempintro
  iapply (wp_seq c (gather c false) (fun i => iprop(ctx m ∗ Gs m i c)) 6 1 gathers _) $$ [I R1 S1 HO KG HB]
  · isplitr; · iexact Hc
    unfold Gs
    isplitl [I]; · iexact I
    isplitl [R1]; · iexact R1
    isplitl [S1]; · iexact S1
    isplitl [HO]; · iexact HO
    isplitl [KG]; · iexact KG
    iexact HB
  iintro ⟨-, H⟩
  iapply (wp_gatherLast m c _) $$ [H]
  · isplitr; · iexact Hc
    iexact H
  unfold SW2
  iintro ⟨PA, R1, ⟨S10, S11⟩, HO, KG, HB⟩
  icases S0 with ⟨S00, S01⟩
  iapply (wp_drain m false false 13 rfl c _ A0 _) $$ [S00 HO]
  · isplitr; · iexact Hc
    isplitl [S00]; · iexact S00
    iexact HO
  iintro ⟨S00, HO, D00⟩
  iapply (wp_drain m false true 13 rfl c _ A0 _) $$ [S01 HO]
  · isplitr; · iexact Hc
    isplitl [S01]; · iexact S01
    iexact HO
  iintro ⟨S01, HO, D01⟩
  iapply (wp_drain m true false 20 rfl c _ A0 _) $$ [S10 HO]
  · isplitr; · iexact Hc
    isplitl [S10]; · iexact S10
    iexact HO
  iintro ⟨S10, HO, D10⟩
  iapply (wp_drain m true true 20 rfl c _ A0 _) $$ [S11 HO]
  · isplitr; · iexact Hc
    isplitl [S11]; · iexact S11
    iexact HO
  iintro ⟨S11, HO, D11⟩
  iapply Hk
  unfold Pout
  isplitl [K D00 D01 HA]
  · iapply All_intro false 14 c
    isplitl [K]; · unfold kept; iexact K
    isplitl [D00]; · iexact D00
    isplitl [D01]; · iexact D01
    iexact HA
  isplitl [KG D10 D11 PA]
  · iapply All_intro true 21 c
    isplitl [KG]; · unfold keptG; iexact KG
    isplitl [D10]; · iexact D10
    isplitl [D11]; · iexact D11
    iexact PA
  isplitl [R0]; · iexact R0
  isplitl [R1]; · iexact R1
  isplitl [S00 S01]
  · unfold SW2
    isplitl [S00]; · iexact S00
    iexact S01
  isplitl [S10 S11]
  · unfold SW2
    isplitl [S10]; · iexact S10
    iexact S11
  isplitl [HO]; · irw [← ob_all c]; iexact HO
  isplitl [Hbar]; · iexact Hbar
  isplitl [HW]; · iexact HW
  isplitl [W0]; · iexact W0
  isplitl [W1]; · iexact W1
  isplitl [X]; · iexact X
  isplitl [HS]; · iexact HS
  iapply OB_all m c
  iexact HB

end Cert.KernelIdeal.Hop
-- ==== Proof.Cells.lean ====
/- The cells of one device sorted by use, and how the launch deals positions, duties and credits. -/
module

public import proofs.«01_k».proof.Proof.Main

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Runs of numbers and slots -/

theorem bigSep_shift (A : ℕ → sProp 𝕄) (a b : ℕ) :
    bigSep (Finset.Ico a b) (fun i => A (i + 1)) = bigSep (Finset.Ico (a + 1) (b + 1)) A := by
  have e : Finset.Ico (a + 1) (b + 1) = (Finset.Ico a b).map ⟨fun i => i + 1, fun _ _ h => Nat.succ.inj h⟩ := by
    ext x
    simp only [Finset.mem_Ico, Finset.mem_map, Function.Embedding.coeFn_mk]
    constructor
    · intro h; exact ⟨x - 1, by omega, show x - 1 + 1 = x by omega⟩
    · rintro ⟨i, h, rfl⟩; show a + 1 ≤ i + 1 ∧ i + 1 < b + 1; omega
  rw [e, BI.bigSep_map]
  rfl

theorem bigSep_slots1 (Φ : Fin 8 → sProp 𝕄) (n : ℕ) :
    bigSep (Finset.Ico n (n + 8)) (fun i => Φ (slot (i + 1))) = bigSep Finset.univ Φ := by
  rw [bigSep_shift (fun i => Φ (slot i)), show n + 8 + 1 = n + 1 + 8 by omega, bigSep_slots]

theorem bigSep_append {a b c : ℕ} (A : ℕ → sProp 𝕄) (h : a ≤ b) (h' : b ≤ c) :
    iprop(bigSep (Finset.Ico a b) A ∗ bigSep (Finset.Ico b c) A) = bigSep (Finset.Ico a c) A := by
  rw [← Finset.Ico_union_Ico_eq_Ico h h', BI.bigSep_union (Finset.Ico_disjoint_Ico_consecutive a b c)]
  rfl

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_two (Φ : Bool → sProp 𝕄) : bigSep Finset.univ Φ = iprop(Φ false ∗ Φ true) :=
  bigSep_univ_eq_bigSepL [false, true] (by decide) (by decide) Φ

/-- Four rounds of every slot, as a run of hops; the slots are met in the order that `g` gives. -/
theorem grid (Ψ : Fin 8 → ℕ → sProp 𝕄) (g : ℕ → Fin 8)
    (hg : ∀ (Φ : Fin 8 → sProp 𝕄) n, bigSep (Finset.Ico n (n + 8)) (fun i => Φ (g i)) = bigSep Finset.univ Φ) {n : ℕ} (h : n ≤ 32) :
    bigSep Finset.univ (fun s => bigSep Finset.univ (fun R : Fin 4 => Ψ s R.val))
      ⊢ bigSep (Finset.Ico 0 n) (fun i => Ψ (g i) (i / 8)) := by
  have step : ∀ R, bigSep Finset.univ (fun s => Ψ s R) = bigSep (Finset.Ico (8 * R) (8 * R + 8)) (fun i => Ψ (g i) (i / 8)) := by
    intro R
    rw [← hg (fun s => Ψ s R) (8 * R)]
    exact bigSep_congr fun i hi => by
      have := Finset.mem_Ico.mp hi
      rw [show i / 8 = R by omega]
  have e : bigSep Finset.univ (fun s => bigSep Finset.univ (fun R : Fin 4 => Ψ s R.val))
      = bigSep (Finset.Ico 0 32) (fun i => Ψ (g i) (i / 8)) := by
    rw [BI.bigSep_univ_comm, bigSep_four]
    rw [show bigSep Finset.univ (fun s => Ψ s (0 : Fin 4).val) = _ from step 0, show bigSep Finset.univ (fun s => Ψ s (1 : Fin 4).val) = _ from step 1,
      show bigSep Finset.univ (fun s => Ψ s (2 : Fin 4).val) = _ from step 2, show bigSep Finset.univ (fun s => Ψ s (3 : Fin 4).val) = _ from step 3]
    rw [bigSep_append _ (by decide) (by decide), bigSep_append _ (by decide) (by decide), bigSep_append _ (by decide) (by decide)]
  rw [e]
  exact BI.bigSep_subset (Finset.Ico_subset_Ico_right h)

/-! ## The cells by use -/

/-- The uses: a ring's and direction's send and receive cells, the weights', the barrier's. -/
abbrev Use := (Bool × Bool) × (Fin 8 ⊕ Fin 8) ⊕ Bool ⊕ Unit

/-- The number of a use. -/
def useIx : Use → Fin 67
  | .inl ((k, r), .inl s) => ⟨8 * (4 * k.toNat + 2 * r.toNat) + s.val, by cases k <;> cases r <;> simp [Bool.toNat] <;> omega⟩
  | .inl ((k, r), .inr s) => ⟨8 * (4 * k.toNat + 2 * r.toNat + 1) + s.val, by cases k <;> cases r <;> simp [Bool.toNat] <;> omega⟩
  | .inr (.inl b) => ⟨64 + b.toNat, by cases b <;> decide⟩
  | .inr (.inr _) => 66

theorem useIx_bij : Function.Bijective useIx := by decide +kernel

def useEquiv : Use ≃ Fin 67 := Equiv.ofBijective useIx useIx_bij

theorem csem_useS (k r : Bool) (s : Fin 8) : csem (useIx (.inl ((k, r), .inl s))) = .dma (sendSem k r s) := by
  revert k r s; decide
theorem csem_useR (k r : Bool) (s : Fin 8) : csem (useIx (.inl ((k, r), .inr s))) = .dma (recvSem k r s) := by
  revert k r s; decide
theorem csem_useW (b : Bool) : csem (useIx (.inr (.inl b))) = .dma (wSem b) := by
  revert b; decide

/-- Over all the protocol's cells is over the cells by use. -/
theorem cells_eq (f : SemLoc sig → sProp 𝕄) : bigSep Finset.univ (fun i : Fin 67 => f (csem i))
    = iprop(bigSep Finset.univ (fun p : Bool × Bool => iprop(bigSep Finset.univ (fun s => f (.dma (sendSem p.1 p.2 s)))
          ∗ bigSep Finset.univ (fun s => f (.dma (recvSem p.1 p.2 s)))))
        ∗ (f (.dma (wSem false)) ∗ f (.dma (wSem true))) ∗ f (.reg barS)) := by
  rw [BI.bigSep_univ_equiv useEquiv, BI.bigSep_univ_sum, BI.bigSep_univ_sum, BI.bigSep_univ_prod, bigSep_two,
    BI.bigSep_univ_of_subsingleton ()]
  have h : ∀ p : Bool × Bool, bigSep Finset.univ (fun b : Fin 8 ⊕ Fin 8 => f (csem (useEquiv (.inl (p, b)))))
      = iprop(bigSep Finset.univ (fun s => f (.dma (sendSem p.1 p.2 s))) ∗ bigSep Finset.univ (fun s => f (.dma (recvSem p.1 p.2 s)))) := by
    rintro ⟨k, r⟩
    rw [BI.bigSep_univ_sum]
    rw [bigSep_congr (s := Finset.univ) (fun s _ => show f (csem (useEquiv (.inl ((k, r), .inl s)))) = f (.dma (sendSem k r s)) from congrArg f (csem_useS k r s)),
      bigSep_congr (s := Finset.univ) (fun s _ => show f (csem (useEquiv (.inl ((k, r), .inr s)))) = f (.dma (recvSem k r s)) from congrArg f (csem_useR k r s))]
    rfl
  rw [bigSep_congr (s := Finset.univ) (fun p _ => h p)]
  rw [show f (csem (useEquiv (.inr (.inl false)))) = f (.dma (wSem false)) from congrArg f (csem_useW false),
    show f (csem (useEquiv (.inr (.inl true)))) = f (.dma (wSem true)) from congrArg f (csem_useW true)]
  rfl

/-- Over both rings and directions, written out. -/
theorem bigSep_ringdir (Φ : Bool × Bool → sProp 𝕄) : bigSep Finset.univ Φ
    = iprop((Φ (false, false) ∗ Φ (false, true)) ∗ (Φ (true, false) ∗ Φ (true, true))) := by
  rw [BI.bigSep_univ_prod, bigSep_two, bigSep_two, bigSep_two]

theorem csem_injective : Function.Injective csem := by
  intro i j h
  unfold csem at h
  split at h <;> split at h <;> rename_i h1 h2
  · injection h with h; have := Fin.mk.inj h; exact Fin.ext (by omega)
  · cases h
  · cases h
  · exact Fin.ext (by have := i.isLt; have := j.isLt; omega)

theorem kcell_injective : Function.Injective (kcell : Dev nD × Fin 67 → GSem nD τ sig) := by
  rintro ⟨c, i⟩ ⟨c', i'⟩ h
  have h1 : c = c' := congrArg (fun g : GSem nD τ sig => g.1.1) h
  have h2 : csem i = csem i' := congrArg Prod.snd h
  rw [h1, csem_injective h2]

/-! ## Closing the cells -/

/-- A cell past its last round is closed: its counter at zero is the owner's again. -/
theorem close_cell (c : Dev nD) (sm : SemLoc sig) (R : ℕ) (hs : ∃ i, csem i = sm)
    (hd : ∀ R', R ≤ R' → (Rd m).duties ((c : Thread nD τ), sm) R' = ∅) :
    iprop(ctx m ∗ pos (F := F) ((c : Thread nD τ), sm) R) ⊢ |={Set.univ}=> (semVal ((c : Thread nD τ), sm) 0 : sProp 𝕄) := by
  iintro ⟨#Hc, H⟩
  unfold pos
  icases H with ⟨H, -⟩
  ihave HI := ctx_inv m c sm hs $$ Hc
  icases HI with ⟨%κ, HI⟩
  imod (Rounds.cell_close ER (Rd m) (Set.mem_univ κ) (fun h => h) (R := R) hd) $$ [HI H] with Hz
  · isplitl [HI]; · iexact HI
    iexact H
  imodintro
  iexact Hz

theorem bigSep_with {I : Type} [DecidableEq I] {S : Finset I} {Q : sProp 𝕄} [BI.Persistent Q] {Φ Ψ : I → sProp 𝕄}
    (h : ∀ i ∈ S, iprop(Q ∗ Φ i) ⊢ Ψ i) : iprop(Q ∗ bigSep S Φ) ⊢ bigSep S Ψ :=
  (sep_mono_left (BI.bigSep_of_persistent S Q)).trans (by rw [← BI.bigSep_sep']; exact BI.bigSep_mono h)

/-- The receiving side at its end. -/
theorem RW_close (k r : Bool) (c : Dev nD) :
    iprop(ctx m ∗ RW (F := F) k r (H k) c) ⊢ |={Set.univ}=> (bigSep Finset.univ (fun s => semVal ((c : Thread nD τ), .dma (recvSem k r s)) 0) : sProp 𝕄) := by
  unfold RW
  iintro ⟨#Hc, H, -⟩
  have h : iprop(ctx m ∗ bigSep (Finset.Ico (H k) (H k + 8)) (fun i => pos (F := F) (recvCell k r i c) (i / 8)))
      ⊢ |={Set.univ}=> (bigSep Finset.univ (fun s => semVal ((c : Thread nD τ), .dma (recvSem k r s)) 0) : sProp 𝕄) := by
    rw [← bigSep_slots1 (fun s => (semVal ((c : Thread nD τ), .dma (recvSem k r s)) 0 : sProp 𝕄)) (H k)]
    refine (bigSep_with fun i hi => ?_).trans (BI.bigSep_fupd _ _)
    exact close_cell m c _ _ (csem_recv k r _) (duties_recv_end m k r i c (Finset.mem_Ico.mp hi).1)
  iapply h
  isplitr; · iexact Hc
  iexact H

/-- The sending side at its end. -/
theorem SW_close (k r : Bool) (c : Dev nD) :
    iprop(ctx m ∗ SW (F := F) k r (H k) (H k) c) ⊢ |={Set.univ}=> (bigSep Finset.univ (fun s => semVal ((c : Thread nD τ), .dma (sendSem k r s)) 0) : sProp 𝕄) := by
  unfold SW
  iintro ⟨#Hc, H, -⟩
  have h : iprop(ctx m ∗ bigSep (Finset.Ico (H k) (H k + 8)) (fun i => pos (F := F) (sendCell k r i c) (i / 8)))
      ⊢ |={Set.univ}=> (bigSep Finset.univ (fun s => semVal ((c : Thread nD τ), .dma (sendSem k r s)) 0) : sProp 𝕄) := by
    rw [← bigSep_slots (fun s => (semVal ((c : Thread nD τ), .dma (sendSem k r s)) 0 : sProp 𝕄)) (H k)]
    refine (bigSep_with fun i hi => ?_).trans (BI.bigSep_fupd _ _)
    exact close_cell m c _ _ (csem_send k r _) (duties_send_end m k r i c (Finset.mem_Ico.mp hi).1)
  iapply h
  isplitr; · iexact Hc
  iexact H

/-- All the cells at the program's end. -/
theorem cells_close (c : Dev nD) :
    iprop(ctx m ∗ RW2 (F := F) false 21 c ∗ RW2 true 28 c ∗ SW2 false 21 21 c ∗ SW2 true 28 28 c ∗ pos (barCell c) 1 ∗ WC false 3 c ∗ WC true 3 c)
      ⊢ |={Set.univ}=> (bigSep Finset.univ (fun i : Fin 67 => semVal (kcell (c, i)) 0) : sProp 𝕄) := by
  rw [cells_eq (fun sm => (semVal ((c : Thread nD τ), sm) 0 : sProp 𝕄)), bigSep_ringdir]
  unfold RW2 SW2 WC
  iintro ⟨#Hc, ⟨R00, R01⟩, ⟨R10, R11⟩, ⟨S00, S01⟩, ⟨S10, S11⟩, HB, ⟨W0, -⟩, ⟨W1, -⟩⟩
  imod (RW_close m false false c) $$ [R00] with R00
  · isplitr; · iexact Hc
    iexact R00
  imod (RW_close m false true c) $$ [R01] with R01
  · isplitr; · iexact Hc
    iexact R01
  imod (RW_close m true false c) $$ [R10] with R10
  · isplitr; · iexact Hc
    iexact R10
  imod (RW_close m true true c) $$ [R11] with R11
  · isplitr; · iexact Hc
    iexact R11
  imod (SW_close m false false c) $$ [S00] with S00
  · isplitr; · iexact Hc
    iexact S00
  imod (SW_close m false true c) $$ [S01] with S01
  · isplitr; · iexact Hc
    iexact S01
  imod (SW_close m true false c) $$ [S10] with S10
  · isplitr; · iexact Hc
    iexact S10
  imod (SW_close m true true c) $$ [S11] with S11
  · isplitr; · iexact Hc
    iexact S11
  imod (close_cell m c (.reg barS) 1 ⟨66, csem_bar⟩ (duties_bar_later m c)) $$ [HB] with HB
  · isplitr; · iexact Hc
    iexact HB
  imod (close_cell m c (.dma (wSem false)) 3 (csem_w false) (duties_w_end m c false)) $$ [W0] with W0
  · isplitr; · iexact Hc
    iexact W0
  imod (close_cell m c (.dma (wSem true)) 3 (csem_w true) (duties_w_end m c true)) $$ [W1] with W1
  · isplitr; · iexact Hc
    iexact W1
  imodintro
  isplitl [R00 R01 R10 R11 S00 S01 S10 S11]
  · isplitl [R00 R01 S00 S01]
    · isplitl [R00 S00]
      · isplitl [S00]; · iexact S00
        iexact R00
      isplitl [S01]; · iexact S01
      iexact R01
    isplitl [R10 S10]
    · isplitl [S10]; · iexact S10
      iexact R10
    isplitl [S11]; · iexact S11
    iexact R11
  isplitl [W0 W1]
  · isplitl [W0]; · iexact W0
    iexact W1
  iexact HB

/-! ## What the launch deals -/

/-- The positions of one ring and direction. -/
def ats (k r : Bool) (c : Dev nD) : sProp 𝕄 :=
  iprop(bigSep (Finset.Ico 0 (0 + 8)) (fun i => pos (F := F) (sendCell k r i c) (i / 8))
    ∗ bigSep (Finset.Ico 0 (0 + 8)) (fun i => pos (F := F) (recvCell k r i c) (i / 8)))

/-- All positions at round 0. -/
theorem ats_intro (c : Dev nD) : (bigSep Finset.univ (fun i : Fin 67 => pos (F := F) (kcell (c, i)) 0) : sProp 𝕄)
    = iprop(bigSep Finset.univ (fun p : Bool × Bool => ats p.1 p.2 c) ∗ (pos (wCell false c) 0 ∗ pos (wCell true c) 0) ∗ pos (barCell c) 0) := by
  rw [cells_eq (fun sm => (pos ((c : Thread nD τ), sm) 0 : sProp 𝕄))]
  have h : ∀ p : Bool × Bool, iprop(bigSep Finset.univ (fun s => pos (F := F) ((c : Thread nD τ), .dma (sendSem p.1 p.2 s)) 0)
      ∗ bigSep Finset.univ (fun s => pos (F := F) ((c : Thread nD τ), .dma (recvSem p.1 p.2 s)) 0)) = ats (F := F) p.1 p.2 c := by
    rintro ⟨k, r⟩
    unfold ats
    rw [← bigSep_slots (fun s => pos (F := F) ((c : Thread nD τ), .dma (sendSem k r s)) 0) 0,
      ← bigSep_slots1 (fun s => pos (F := F) ((c : Thread nD τ), .dma (recvSem k r s)) 0) 0]
    rw [bigSep_congr (s := Finset.Ico 0 (0 + 8)) (Φ := fun i => pos (F := F) (sendCell k r i c) (i / 8)) (Ψ := fun i => pos (sendCell k r i c) 0)
        (fun i hi => by have := Finset.mem_Ico.mp hi; rw [show i / 8 = 0 by omega]),
      bigSep_congr (s := Finset.Ico 0 (0 + 8)) (Φ := fun i => pos (F := F) (recvCell k r i c) (i / 8)) (Ψ := fun i => pos (recvCell k r i c) 0)
        (fun i hi => by have := Finset.mem_Ico.mp hi; rw [show i / 8 = 0 by omega])]
  rw [bigSep_congr (s := Finset.univ) (fun p _ => h p)]

/-- The duties minted on one cell: four rounds, both names. -/
def minted (g : GSem nD τ sig) : sProp 𝕄 :=
  bigSep Finset.univ (fun R : Fin 4 => bigSep Finset.univ (fun d : Bool => (dutyTok ER g R.val d : sProp 𝕄)))

theorem minted_all (g : GSem nD τ sig) : minted (F := F) g ⊢ (bigSep Finset.univ (fun R : Fin 4 => dutyTok ER g R.val false) : sProp 𝕄) := by
  unfold minted
  exact BI.bigSep_mono fun R _ => BI.bigSep_elim (Finset.mem_univ false)

theorem minted_bar (g : GSem nD τ sig) : minted (F := F) g ⊢ (iprop(dutyTok ER g 0 false ∗ dutyTok ER g 0 true) : sProp 𝕄) := by
  unfold minted
  rw [bigSep_four, bigSep_two]
  iintro ⟨⟨H, H'⟩, -⟩
  isplitl [H]; · iexact H
  iexact H'

theorem minted_w (g : GSem nD τ sig) : minted (F := F) g ⊢ (bigSep (Finset.Ico 0 3) (fun i => dutyTok ER g i false) : sProp 𝕄) := by
  refine (minted_all g).trans ?_
  rw [bigSep_four, bigSep_Ico_succ_bot (show 0 < 3 by decide), bigSep_Ico_succ_bot (show 0 + 1 < 3 by decide), bigSep_Ico_one]
  iintro ⟨A, B, C, -⟩
  isplitl [A]; · iexact A
  isplitl [B]; · iexact B
  iexact C

/-- The duties on the cells device `c` owns, of one ring and direction: sends and arrivals. -/
def ownS (k r : Bool) (c : Dev nD) : sProp 𝕄 := bigSep (Finset.Ico 0 (H k)) (fun i => dutyTok ER (sendCell k r i c) (i / 8) false)
def ownR (k r : Bool) (c : Dev nD) : sProp 𝕄 := bigSep (Finset.Ico 0 (H k)) (fun i => dutyTok ER (recvCell k r i c) (i / 8) false)

theorem H_le32 (k : Bool) : H k ≤ 32 := by cases k <;> decide

theorem minted_intro (c : Dev nD) : (bigSep Finset.univ (fun i : Fin 67 => minted (F := F) (kcell (c, i))) : sProp 𝕄)
    ⊢ iprop(bigSep Finset.univ (fun p : Bool × Bool => iprop(ownS p.1 p.2 c ∗ ownR p.1 p.2 c))
        ∗ (bigSep (Finset.Ico 0 3) (fun i => dutyTok ER (wCell false c) i false) ∗ bigSep (Finset.Ico 0 3) (fun i => dutyTok ER (wCell true c) i false))
        ∗ dutyTok ER (barCell c) 0 false ∗ dutyTok ER (barCell c) 0 true) := by
  rw [cells_eq (fun sm => minted (F := F) ((c : Thread nD τ), sm))]
  refine BI.sep_mono (BI.bigSep_mono fun p _ => BI.sep_mono ?_ ?_) (BI.sep_mono (BI.sep_mono (minted_w _) (minted_w _)) (minted_bar _))
  · refine (BI.bigSep_mono fun s _ => minted_all _).trans ?_
    exact grid (fun s R => dutyTok ER ((c : Thread nD τ), .dma (sendSem p.1 p.2 s)) R false) slot (fun Φ n => bigSep_slots Φ n) (H_le32 p.1)
  · refine (BI.bigSep_mono fun s _ => minted_all _).trans ?_
    exact grid (fun s R => dutyTok ER ((c : Thread nD τ), .dma (recvSem p.1 p.2 s)) R false) (fun i => slot (i + 1)) (fun Φ n => bigSep_slots1 Φ n) (H_le32 p.1)

/-- The duties device `c` pays. -/
def pays (c : Dev nD) : sProp 𝕄 :=
  iprop(bigSep Finset.univ (fun p : Bool × Bool => bigSep (Finset.Ico 0 (H p.1)) (fun i => toks (F := F) p.1 p.2 i c))
    ∗ (bigSep (Finset.Ico 0 3) (fun i => dutyTok ER (wCell false c) i false) ∗ bigSep (Finset.Ico 0 3) (fun i => dutyTok ER (wCell true c) i false))
    ∗ dutyTok ER (barCell (dn true c)) 0 false ∗ dutyTok ER (barCell (dn false c)) 0 true)

/-- The duties dealt around the ring: each goes to the device that pays it. -/
theorem deal : (bigSep Finset.univ (fun c : Dev nD => bigSep Finset.univ (fun i : Fin 67 => minted (F := F) (kcell (c, i)))) : sProp 𝕄)
    ⊢ bigSep Finset.univ (fun c : Dev nD => pays c) := by
  refine (BI.bigSep_mono fun c _ => minted_intro c).trans ?_
  unfold pays
  rw [BI.bigSep_sep', BI.bigSep_sep', BI.bigSep_sep', BI.bigSep_sep', BI.bigSep_sep', BI.bigSep_sep', BI.bigSep_sep', BI.bigSep_sep',
    BI.bigSep_univ_equiv (ring true) (fun c : Dev nD => (dutyTok ER (barCell c) 0 false : sProp 𝕄)),
    BI.bigSep_univ_equiv (ring false) (fun c : Dev nD => (dutyTok ER (barCell c) 0 true : sProp 𝕄))]
  refine BI.sep_mono ?_ (BI.Entails.refl _)
  rw [BI.bigSep_univ_comm, BI.bigSep_univ_comm (fun (c : Dev nD) (p : Bool × Bool) => bigSep (Finset.Ico 0 (H p.1)) (fun i => toks (F := F) p.1 p.2 i c))]
  refine BI.bigSep_mono fun p _ => ?_
  unfold toks
  rw [BI.bigSep_sep', BI.bigSep_univ_equiv (ring p.2) (fun c : Dev nD => ownR (F := F) p.1 p.2 c), ← BI.bigSep_sep']
  refine BI.bigSep_mono fun c _ => ?_
  rw [BI.bigSep_sep']
  unfold ownS ownR
  exact BI.Entails.refl _

/-! ## The credits -/

/-- A debt each device has to its image under `f` is that device's credit. -/
theorem cred_one (f : Dev nD ≃ Dev nD) (sm : SemLoc sig) (u n : ℕ) (c : Dev nD) :
    (Pipeline.launchCred (fun d => tallyAt ((f d : Thread nD τ), sm) u n) c : sProp 𝕄) ⊢ cred (tallyAt ((c : Thread nD τ), sm) u n) := by
  refine (Pipeline.launchCred_elim _ c sm).trans ?_
  rw [Pipeline.tallyOn_launchCredit_owing, Equiv.sum_comp f (fun d => (tallyAt ((d : Thread nD τ), sm) u n : CellTallies nD τ sig ℕ))]
  have : tallyOn ((c : Thread nD τ), sm) ((∑ d : Dev nD, (tallyAt ((d : Thread nD τ), sm) u n : CellTallies nD τ sig ℕ)) ((c : Thread nD τ), sm))
      = (tallyAt ((c : Thread nD τ), sm) u n : CellTallies nD τ sig ℕ) := by
    rw [Finset.sum_apply, Finset.sum_eq_single c]
    · unfold tallyAt; rw [tallyOn_self]
    · intro d _ hd
      exact tallyAt_ne_cell (fun h => hd (congrArg (fun g : GSem nD τ sig => g.1.1) h).symm) u n
    · intro h; exact absurd (Finset.mem_univ c) h
  rw [this]

theorem creds_ob (k r : Bool) (c : Dev nD) :
    (Pipeline.launchCred (fun d => ob k r 0 d) c : sProp 𝕄) ⊢ bigSep (Finset.Ico 0 (H k)) (fun i => cred (tallyAt (recvCell k r i c) i N)) := by
  unfold ob
  rw [Pipeline.launchCred_sum]
  exact BI.bigSep_mono fun i _ => cred_one (ring r) (.dma (recvSem k r (slot (i + 1)))) i N c

/-- Every credit device `c` starts with. -/
theorem creds (c : Dev nD) : (Pipeline.launchCred O₀ c : sProp 𝕄)
    ⊢ iprop(((bigSep (Finset.Ico 0 (H false)) (fun i => cred (tallyAt (recvCell false false i c) i N)) ∗ bigSep (Finset.Ico 0 (H false)) (fun i => cred (tallyAt (recvCell false true i c) i N)))
          ∗ bigSep (Finset.Ico 0 (H true)) (fun i => cred (tallyAt (recvCell true false i c) i N)) ∗ bigSep (Finset.Ico 0 (H true)) (fun i => cred (tallyAt (recvCell true true i c) i N)))
        ∗ cred (tallyAt (barCell c) 0 2)) := by
  have e : (Pipeline.launchCred O₀ c : sProp 𝕄)
      = iprop(((((Pipeline.launchCred (fun d => ob false false 0 d) c ∗ Pipeline.launchCred (fun d => ob false true 0 d) c)
            ∗ Pipeline.launchCred (fun d => ob true false 0 d) c ∗ Pipeline.launchCred (fun d => ob true true 0 d) c)
          ∗ Pipeline.launchCred (fun d => tallyAt (barCell (dn false d)) 0 1) c))
        ∗ Pipeline.launchCred (fun d => tallyAt (barCell (dn true d)) 0 1) c) := by
    rw [show (O₀ : Dev nD → CellTallies nD τ sig ℕ) = fun d => ((((ob false false 0 d + ob false true 0 d) + (ob true false 0 d + ob true true 0 d))
        + tallyAt (barCell (dn false d)) 0 1) + tallyAt (barCell (dn true d)) 0 1) from rfl]
    rw [Pipeline.launchCred_add (fun d => (((ob false false 0 d + ob false true 0 d) + (ob true false 0 d + ob true true 0 d))
        + tallyAt (barCell (dn false d)) 0 1)) (fun d => tallyAt (barCell (dn true d)) 0 1),
      Pipeline.launchCred_add (fun d => ((ob false false 0 d + ob false true 0 d) + (ob true false 0 d + ob true true 0 d))) (fun d => tallyAt (barCell (dn false d)) 0 1),
      Pipeline.launchCred_add (fun d => (ob false false 0 d + ob false true 0 d)) (fun d => (ob true false 0 d + ob true true 0 d)),
      Pipeline.launchCred_add (fun d => ob false false 0 d) (fun d => ob false true 0 d),
      Pipeline.launchCred_add (fun d => ob true false 0 d) (fun d => ob true true 0 d)]
  rw [e]
  iintro ⟨⟨⟨⟨A, B⟩, C, D⟩, E⟩, G⟩
  ihave A := creds_ob false false c $$ A
  ihave B := creds_ob false true c $$ B
  ihave C := creds_ob true false c $$ C
  ihave D := creds_ob true true c $$ D
  ihave E := (show (Pipeline.launchCred (fun d => tallyAt (barCell (dn false d)) 0 1) c : sProp 𝕄) ⊢ cred (tallyAt (barCell c) 0 1)
    from cred_one (ring false) (.reg barS) 0 1 c) $$ E
  ihave G := (show (Pipeline.launchCred (fun d => tallyAt (barCell (dn true d)) 0 1) c : sProp 𝕄) ⊢ cred (tallyAt (barCell c) 0 1)
    from cred_one (ring true) (.reg barS) 0 1 c) $$ G
  isplitl [A B C D]
  · isplitl [A B]
    · isplitl [A]; · iexact A
      iexact B
    isplitl [C]; · iexact C
    iexact D
  irw [show (tallyAt (barCell c) 0 2 : CellTallies nD τ sig ℕ) = tallyAt (barCell c) 0 1 + tallyAt (barCell c) 0 1 from (tallyAt_add _ 0 1 1).symm]
  iapply (cred_add _ _).2
  isplitl [E]; · iexact E
  iexact G

end Cert.KernelIdeal.Hop
-- ==== Proof.Run.lean ====
/- The launch: allocating the cells, the body obligation, and the run. -/
module

public import proofs.«01_k».proof.Proof.Cells

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (ρ : Dev nD → PrngReg)

/-- The memory at launch: any contents, every semaphore at zero. -/
def s₀ : MemSt nD τ sig (Elt F) := ⟨m, fun _ => 0, ρ⟩

/-! ## The region's data -/

/-- A device's share of the protocol at the start. -/
def Dealt (c : Dev nD) : sProp 𝕄 :=
  iprop(RW2 (F := F) false 0 c ∗ RW2 true 0 c ∗ SW2 false 0 0 c ∗ SW2 true 0 0 c ∗ WC false 0 c ∗ WC true 0 c
    ∗ dutyTok ER (barCell (dn true c)) 0 false ∗ dutyTok ER (barCell (dn false c)) 0 true ∗ pos (barCell c) 0
    ∗ cred (tallyAt (barCell c) 0 2))

def Begin (c : Dev nD) : sProp 𝕄 := iprop(ctx m ∗ Dealt c ∗ SRCs m c)

/-- The scratch buffers at any contents. -/
def Scr (c : Dev nD) : sProp 𝕄 := iprop(All (F := F) false c ∗ All true c ∗ ∃ wi wo, WB c wi wo)

def Φ₀ (c : Dev nD) : sProp 𝕄 := iprop(Begin m c ∗ Scr c)
def Φ₁ (c : Dev nD) : sProp 𝕄 :=
  iprop(SRCs m c ∗ Scr c ∗ bigSep Finset.univ (fun i : Fin 67 => semVal (kcell (c, i)) 0))

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => xv m c
    | ⟨1, _⟩ => OUT m
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A scratch buffer as the launch states it is the same as a ring's whole buffer. -/
theorem All_eq (k : Bool) (c : Dev nD) :
    (All (F := F) k c : sProp 𝕄) = iprop(∃ f : Buf (Elt F) ((buf k).view.loc (c : Thread nD τ)), ((buf k).view.loc (c : Thread nD τ) ↦{fullShare} f)) := by
  unfold All; rw [buf_set]

theorem Scr_intro (c : Dev nD) : (Pipeline.scopedRest cfg0.spec c : sProp 𝕄) ⊢ Scr c := by
  rw [scopedRest0_eq]
  unfold Scr WB
  rw [All_eq, All_eq]
  iintro ⟨H0, H1, ⟨%f2, H2⟩, ⟨%f3, H3⟩⟩
  isplitl [H0]; · iexact H0
  isplitl [H1]; · iexact H1
  iexists f2, f3
  irw [owns_whole, owns_whole]
  isplitl [H2]; · iexact H2
  iexact H3

theorem Scr_exit (c : Dev nD) : Scr c ⊢ (Pipeline.scopedRest cfg0.spec c : sProp 𝕄) := by
  rw [scopedRest0_eq]
  unfold Scr WB
  rw [All_eq, All_eq]
  iintro ⟨H0, H1, ⟨%f2, %f3, H2, H3⟩⟩
  ihave H2 := (Entails.of_eq (owns_whole (c : Thread nD τ) cc0_scratch2 fullShare f2)) $$ H2
  ihave H3 := (Entails.of_eq (owns_whole (c : Thread nD τ) cc0_scratch3 fullShare f3)) $$ H3
  isplitl [H0]; · iexact H0
  isplitl [H1]; · iexact H1
  isplitl [H2]; · iexists f2; iexact H2
  iexists f3; iexact H3

/-! ## The ring buffers cut into slots -/

theorem init_intro (k r : Bool) (c : Dev nD) :
    iprop(ctx m ∗ bigSep (Finset.Ico 1 8) (fun i => AP (F := F) k r (slot i) c fullShare)) ⊢ (init k r 0 (dn (!r) c) : sProp 𝕄) := by
  rw [← bigSep_shift (fun i => AP (F := F) k r (slot i) c fullShare) 0 7]
  unfold init
  refine bigSep_with fun e he => ?_
  have he' := Finset.mem_Ico.mp he
  unfold Ent side
  rw [dn_dn_not, if_pos (Or.inr (by omega)), if_neg (by omega), show e / 8 = 0 by omega]
  iintro ⟨#Hc, H⟩
  isplitl [H]; · iexact H
  isplitr; · iempintro
  ihave H := ctx_cell m c _ (csem_recv k r _) $$ Hc
  icases H with ⟨-, H⟩
  iexact H

/-- A ring's buffer: its first slot, and the others for the two neighbours. -/
theorem All_cut (k : Bool) (c : Dev nD) :
    iprop(ctx m ∗ All (F := F) k c) ⊢ (iprop(AS k (slot 0) c fullShare ∗ init k false 0 (dn true c) ∗ init k true 0 (dn false c)) : sProp 𝕄) := by
  unfold All
  iintro ⟨#Hc, ⟨%f, H⟩⟩
  ihave H := whole_split k c f $$ H
  have e : (bigSep (Finset.univ : Finset (Bool × Fin 8)) (fun p => AP (F := F) k p.1 p.2 c fullShare) : sProp 𝕄)
      = iprop((AP k false (slot 0) c fullShare ∗ bigSep (Finset.Ico 1 8) (fun i => AP (F := F) k false (slot i) c fullShare))
        ∗ (AP k true (slot 0) c fullShare ∗ bigSep (Finset.Ico 1 8) (fun i => AP (F := F) k true (slot i) c fullShare))) := by
    rw [BI.bigSep_univ_prod, bigSep_two, ← bigSep_slots (fun s => AP (F := F) k false s c fullShare) 0,
      ← bigSep_slots (fun s => AP (F := F) k true s c fullShare) 0, bigSep_Ico_succ_bot (show 0 < 0 + 8 by decide),
      bigSep_Ico_succ_bot (show 0 < 0 + 8 by decide)]
  ihave H := (Entails.of_eq e) $$ H
  icases H with ⟨⟨A, B⟩, C, D⟩
  isplitl [A C]
  · unfold AS
    isplitl [A]; · iexact A
    iexact C
  isplitl [B]
  · iapply (init_intro m k false c)
    isplitr; · iexact Hc
    iexact B
  · iapply (init_intro m k true c)
    isplitr; · iexact Hc
    iexact D

/-! ## The body obligation -/

theorem done_none (c : Dev nD) (i : S512x1024.Idx) : ¬ done c 0 i := fun ⟨_, _, h, _⟩ => absurd h (Nat.not_lt_zero _)

/-- The body from the region's start to its end. -/
theorem body_run (c : Dev nD) (Q : PUnit → sProp 𝕄) (g : Buf (Elt F) (oM.view.loc (c : Thread nD τ))) :
    iprop(Φ₀ m c ∗ OW c (O₀ c) ∗ XB c (xv m c) ∗ (oM.view.loc (c : Thread nD τ) ↦{fullShare} g))
      ⊢ iprop((iprop(Φ₁ m c ∗ OW c 0 ∗ XB c (xv m c) ∗ (oM.view.loc (c : Thread nD τ) ↦{fullShare} OUT m)) -∗ Q ⟨⟩) -∗ WP c (body (F := F)) Q) := by
  unfold Φ₀ Begin Dealt Scr body WP
  simp only [Prog.lift, Prog.bind_op, Prog.bind_ret, Prog.pure_eq_ret, bind, Prog.bind, wp_deviceId]
  iintro ⟨⟨⟨#Hc, ⟨R0, R1, S0, S1, W0, W1, DT, DF, PB, CB⟩, HS⟩, A0, A1, HW⟩, HO, HX, HG⟩ Hk
  ihave A0 := All_cut m false c $$ [A0]
  · isplitr; · iexact Hc
    iexact A0
  ihave A1 := All_cut m true c $$ [A1]
  · isplitr; · iexact Hc
    iexact A1
  icases A0 with ⟨A0, I00, I01⟩
  icases A1 with ⟨A1, I10, I11⟩
  iapply (wp_fupd _ _ _ _)
  iapply (wp_main m c _) $$ [HO DT DF I00 I01 I10 I11 PB CB A0 A1 R0 R1 S0 S1 HW W0 W1 HX HS HG]
  · isplitr; · iexact Hc
    unfold Pin Ein barPay
    isplitl [HO DT DF I00 I01 I10 I11 PB CB]
    · isplitl [HO]; · iexact HO
      isplitl [DT]; · iexact DT
      isplitl [DF]; · iexact DF
      isplitl [I00 I10]
      · isplitl [I00]; · iexact I00
        iexact I10
      isplitl [I01 I11]
      · isplitl [I01]; · iexact I01
        iexact I11
      isplitl [PB]; · iexact PB
      iexact CB
    isplitl [A0]; · iexact A0
    isplitl [A1]; · iexact A1
    isplitl [R0]; · iexact R0
    isplitl [R1]; · iexact R1
    isplitl [S0]; · iexact S0
    isplitl [S1]; · iexact S1
    isplitl [HW]; · iexact HW
    isplitl [W0]; · iexact W0
    isplitl [W1]; · iexact W1
    isplitl [HX]; · iexact HX
    isplitl [HS]; · iexact HS
    unfold OB
    iexists g
    isplitr; · ipureintro; exact fun i h => absurd h (done_none c i)
    iexact HG
  unfold Pout
  iintro ⟨A0, A1, R0, R1, S0, S1, HO, PB, HW, W0, W1, HX, HS, HG⟩
  imod (cells_close m c) $$ [R0 R1 S0 S1 PB W0 W1] with HZ
  · isplitr; · iexact Hc
    isplitl [R0]; · iexact R0
    isplitl [R1]; · iexact R1
    isplitl [S0]; · iexact S0
    isplitl [S1]; · iexact S1
    isplitl [PB]; · iexact PB
    isplitl [W0]; · iexact W0
    iexact W1
  imodintro
  iapply Hk
  unfold Φ₁ Scr
  isplitl [HS A0 A1 HW HZ]
  · isplitl [HS]; · iexact HS
    isplitl [A0 A1 HW]
    · isplitl [A0]; · iexact A0
      isplitl [A1]; · iexact A1
      iexact HW
    iexact HZ
  isplitl [HO]; · iexact HO
  isplitl [HX]; · iexact HX
  iexact HG

end Cert.KernelIdeal.Hop
-- ==== Proof.Launch.lean ====
/- The launch of the region on every device, and what the run ends with. -/
module

public import proofs.«01_k».proof.Proof.Run
public import Idealize.ShloMosaic.Lib.Pipeline.Frame
public import Idealize.ShloMosaic.Lib.Pipeline.Value
public import Idealize.ShloMosaic.Lib.Pipeline.CollectiveSegs

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (ρ : Dev nD → PrngReg)

/-! ## The body obligation -/

set_option maxRecDepth 100000 in
/-- The library's body obligation of device `c`. -/
theorem obligation (c : Dev nD) : Pipeline.BodyObligation (dats (F := F) m ρ 0 c) (defs₀ (F := F)) 𝒱₀ 0 Set.univ := fun t => by
  rw [fin_N0 t]
  rw [bigSep_W0, bigSep_W0]
  simp only [owns_whole_eq]
  show iprop(Φ₀ m c ∗ (dats m ρ 0 c).owesAt 0 t0_0.castSucc
      ∗ (∃ d, ∃ f : Buf (Elt F) ((c : Thread nD τ).loc cc0_stg0_0), ⌜f = (dats m ρ 0 c).before (0 : Fin 2) t0_0 d⌝ ∗ (((c : Thread nD τ).loc cc0_stg0_0) ↦{fullShare} f))
      ∗ (∃ d, ∃ f : Buf (Elt F) ((c : Thread nD τ).loc cc0_stg1_0), ⌜f = (dats m ρ 0 c).before (1 : Fin 2) t0_0 d⌝ ∗ (((c : Thread nD τ).loc cc0_stg1_0) ↦{fullShare} f)))
    ⊢ WP c (bodyAt0 (F := F) t0_0) (fun _ => iprop(Φ₁ m c ∗ (dats m ρ 0 c).owesAt 0 t0_0.succ
      ∗ (∃ f : Buf (Elt F) ((c : Thread nD τ).loc cc0_stg0_0), ⌜f = xv m c⌝ ∗ (((c : Thread nD τ).loc cc0_stg0_0) ↦{fullShare} f))
      ∗ (∃ f : Buf (Elt F) ((c : Thread nD τ).loc cc0_stg1_0), ⌜f = OUT m⌝ ∗ (((c : Thread nD τ).loc cc0_stg1_0) ↦{fullShare} f))))
  rw [body_eq]
  iintro ⟨HΦ, HO, ⟨%d0, %g0, %hg0, HX⟩, ⟨%d1, %g1, %hg1, HG⟩⟩
  have hx : g0 = xv m c := by rw [hg0]; unfold Pipeline.Dat.before; rw [if_pos (fetch0_0 t0_0)]; rfl
  subst hx
  unfold Pipeline.Dat.owesAt Pipeline.owesWithin
  rw [show (dats m ρ 0 c).owed t0_0.castSucc = O₀ c from rfl, show (dats m ρ 0 c).owed t0_0.succ = 0 from rfl]
  icases HO with ⟨%W, -, HO⟩
  iapply (body_run m c _ g1) $$ [HΦ HO HX HG]
  · unfold OW XB
    irw [owns_whole]
    isplitl [HΦ]; · iexact HΦ
    isplitl [HO]; · iexists W; iexact HO
    isplitl [HX]; · iexact HX
    iexact HG
  unfold OW XB
  iintro ⟨HΦ, ⟨%W', HO⟩, HX, HG⟩
  ihave HX := (Entails.of_eq (owns_whole (c : Thread nD τ) cc0_stg0_0 fullShare (xv m c))) $$ HX
  isplitl [HΦ]; · iexact HΦ
  isplitl [HO]
  · iexists W'
    isplitr; · ipureintro; exact fun _ _ => Or.inl trivial
    iexact HO
  isplitl [HX]
  · iexists _; isplitr; · ipureintro; rfl
    iexact HX
  iexists _; isplitr; · ipureintro; rfl
  iexact HG

/-! ## The cells allocated -/

def osem (i : Fin 66) : SemLoc sig := csem i.castSucc

theorem ownSemFacts : Pipeline.OwnSemFacts cfg0.spec osem := by decide +kernel

theorem share_eq (c : Dev nD) (w : Fin cfg0.W) : (dats m ρ 0 c).share w = fullShare := by unfold Pipeline.Dat.share; split <;> rfl

def ringCells : Finset (GSem nD τ sig) := Finset.univ.map ⟨kcell, kcell_injective⟩

/-- The duties minted: four rounds of both names on every cell. -/
def tokOf (x : (Dev nD × Fin 67) × Fin 4 × Bool) : GSem nD τ sig × ℕ × Bool := (kcell x.1, x.2.1.val, x.2.2)
theorem tokOf_injective : Function.Injective tokOf := by
  rintro ⟨ci, R, d⟩ ⟨ci', R', d'⟩ h
  have h1 := kcell_injective (congrArg Prod.fst h)
  have h2 : R = R' := Fin.ext (congrArg (fun y : GSem nD τ sig × ℕ × Bool => y.2.1) h)
  have h3 : d = d' := congrArg (fun y : GSem nD τ sig × ℕ × Bool => y.2.2) h
  subst h1 h2 h3; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- What device `c` is dealt before the cells are opened. -/
def G (c : Dev nD) : sProp 𝕄 :=
  iprop(bigSep Finset.univ (fun i : Fin 67 => roundState ER (Rd m) (kcell (c, i)) 0)
    ∗ bigSep Finset.univ (fun i : Fin 67 => iprop(reached ER (kcell (c, i)) 0 ∗ pos (F := F) (kcell (c, i)) 0))
    ∗ bigSep Finset.univ (fun i : Fin 67 => minted (F := F) (kcell (c, i))))

/-- And after. -/
def G' (c : Dev nD) : sProp 𝕄 :=
  iprop(records m ∗ bigSep Finset.univ (fun i : Fin 67 => pos (F := F) (kcell (c, i)) 0) ∗ pays c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : Fin 67 => Φ (kcell (c, i)) := by
    unfold ringCells; rw [BI.bigSep_map, BI.bigSep_univ_prod]; rfl
  have hT : bigSep ringToks (fun x => (dutyTok ER x.1 x.2.1 x.2.2 : sProp 𝕄))
      = bigSep Finset.univ fun c : Dev nD => bigSep Finset.univ fun i : Fin 67 => minted (kcell (c, i)) := by
    unfold ringToks; rw [BI.bigSep_map, BI.bigSep_univ_prod, BI.bigSep_univ_prod]
    exact bigSep_congr fun c _ => bigSep_congr fun i _ => by unfold minted; rw [BI.bigSep_univ_prod]; rfl
  have hP : iprop(bigSep ringCells (fun g => (reached ER g 0 : sProp 𝕄)) ∗ bigSep ringCells (fun g => atPos ER g 0 ∅ 0))
      ⊢ (bigSep ringCells (fun g => iprop(reached ER g 0 ∗ pos (F := F) g 0)) : sProp 𝕄) := by
    rw [← BI.bigSep_sep']
    refine BI.bigSep_mono fun g _ => ?_
    show iprop(reached ER g 0 ∗ atPos ER g 0 ∅ 0) ⊢ iprop(reached ER g 0 ∗ pos (F := F) g 0)
    unfold pos
    iintro ⟨#H, H'⟩
    isplitr; · iexact H
    isplitl [H']; · iexact H'
    iexact H
  iintro HX
  imod (Rounds.fund ER (Rd m) ringCells ringToks) $$ HX with ⟨Hst, Hr, Hat, Htok⟩
  imodintro
  ihave Hp := hP $$ [Hr Hat]
  · isplitl [Hr] <;> iassumption
  ihave Hst' := (Entails.of_eq (hX fun g => roundState ER (Rd m) g 0)) $$ Hst
  ihave Hp' := (Entails.of_eq (hX fun g => iprop(reached ER g 0 ∗ pos (F := F) g 0))) $$ Hp
  ihave Htok' := (Entails.of_eq hT) $$ Htok
  unfold G; simp only [BI.bigSep_sep']
  isplitl [Hst']; · iexact Hst'
  isplitl [Hp']
  · iexact Hp'
  iexact Htok'

/-- The counters of all the cells: the region's own and the launch's one. -/
theorem sems_eq (c : Dev nD) :
    iprop(Pipeline.ownSems0 (Ix := ℕ) (Name := ℕ) (U := UU) (Lvl := ℕ) (Val := Elt F) (τ := τ) osem c ∗ unscopedSems0 c)
      = (bigSep Finset.univ (fun i : Fin 67 => semVal (kcell (c, i)) 0) : sProp 𝕄) := by
  have h1 : (unscopedSems0 c : sProp 𝕄) = semVal (barCell c) 0 := by
    unfold unscopedSems0; rw [bigSep_eq_bigSepL_of_eq [SemLoc.reg barS] (by decide) (by decide)]; rfl
  have h2 : (bigSep Finset.univ (fun i : Fin 67 => semVal (kcell (c, i)) 0) : sProp 𝕄)
      = iprop(semVal (kcell (c, Fin.last 66)) 0 ∗ bigSep Finset.univ (fun i : Fin 66 => semVal (kcell (c, i.castSucc)) 0)) := by
    rw [Fin.univ_castSuccEmb 66, Finset.cons_eq_insert, BI.bigSep_insert (by
      simp only [Finset.mem_map, Finset.mem_univ, true_and, not_exists]
      exact fun i h => absurd (congrArg Fin.val h) (Nat.ne_of_lt i.isLt)), BI.bigSep_map]
    rfl
  rw [h1, h2]
  exact equiv_iff.mp ⟨BI.sep_comm, BI.sep_comm⟩

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> (iprop(bigSep Finset.univ (fun i : Fin 67 => iprop((∃ κ, cellInv ER (Rd m) κ (kcell (c, i))) ∗ reached ER (kcell (c, i)) 0))
          ∗ bigSep Finset.univ (fun i : Fin 67 => pos (F := F) (kcell (c, i)) 0)
          ∗ bigSep Finset.univ (fun i : Fin 67 => minted (F := F) (kcell (c, i)))) : sProp 𝕄) := by
  unfold G
  rw [BI.bigSep_sep', BI.bigSep_sep']
  iintro ⟨Hos, Hus, Hst, ⟨Hr, Hat⟩, Htok⟩
  ihave Hv := (Entails.of_eq (sems_eq (F := F) c)) $$ [Hos Hus]
  · isplitl [Hos] <;> iassumption
  imod (show iprop((bigSep Finset.univ fun i : Fin 67 => semVal (kcell (c, i)) 0) ∗ bigSep Finset.univ fun i : Fin 67 => roundState ER (Rd m) (kcell (c, i)) 0)
      ⊢ (|={Set.univ}=> bigSep Finset.univ fun i => iprop(∃ κ : ℕ, cellInv ER (Rd m) κ (kcell (c, i))) : sProp 𝕄) from by
        rw [← BI.bigSep_sep']
        exact (BI.bigSep_mono fun i _ => (Rounds.body_intro ER (Rd m) (kcell (c, i))).trans inv_alloc).trans (BI.bigSep_fupd _ _)) $$ [Hv Hst] with Hinv
  · isplitl [Hv] <;> iassumption
  imodintro
  isplitl [Hinv Hr]
  · isplitl [Hinv]; · iexact Hinv
    iexact Hr
  isplitl [Hat]; · iexact Hat
  iexact Htok

theorem regroup :
    (bigSep Finset.univ fun c : Dev nD => iprop(bigSep Finset.univ (fun i : Fin 67 => iprop((∃ κ, cellInv ER (Rd m) κ (kcell (c, i))) ∗ reached ER (kcell (c, i)) 0))
          ∗ bigSep Finset.univ (fun i : Fin 67 => pos (F := F) (kcell (c, i)) 0)
          ∗ bigSep Finset.univ (fun i : Fin 67 => minted (F := F) (kcell (c, i)))) : sProp 𝕄)
      ⊢ bigSep Finset.univ (G' m) := by
  have h : iprop(records m ∗ bigSep Finset.univ (fun c : Dev nD => iprop(bigSep Finset.univ (fun i : Fin 67 => pos (F := F) (kcell (c, i)) 0) ∗ pays c)))
      ⊢ (bigSep Finset.univ (G' m) : sProp 𝕄) := bigSep_with fun c _ => by unfold G'; exact BIBase.Entails.rfl
  refine BIBase.Entails.trans ?_ h
  rw [BI.bigSep_sep', BI.bigSep_sep', BI.bigSep_sep', ← BI.bigSep_univ_prod (fun ci : Dev nD × Fin 67 => iprop((∃ κ, cellInv ER (Rd m) κ (kcell ci)) ∗ reached ER (kcell ci) 0))]
  unfold records
  iintro ⟨HI, Hat, Htok⟩
  isplitl [HI]; · iexact HI
  isplitl [Hat]; · iexact Hat
  iapply deal
  iexact Htok

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) := by
  refine ((BI.bigSep_mono fun c _ => core_alloc m c).trans (BI.bigSep_fupd _ _)).trans (BI.fupd_mono (regroup m))

/-! ## Entering and leaving the region -/

/-- A device's share of the protocol out of what the launch deals. -/
theorem dealt (c : Dev nD) :
    iprop(bigSep Finset.univ (fun i : Fin 67 => pos (F := F) (kcell (c, i)) 0) ∗ pays c ∗ Pipeline.launchCred O₀ c) ⊢ (Dealt c : sProp 𝕄) := by
  rw [ats_intro, bigSep_ringdir]
  unfold pays
  rw [bigSep_ringdir]
  unfold Dealt RW2 SW2 RW SW WC ats
  iintro ⟨⟨⟨⟨⟨PS00, PR00⟩, PS01, PR01⟩, ⟨PS10, PR10⟩, PS11, PR11⟩, ⟨PW0, PW1⟩, PB⟩, ⟨⟨⟨T00, T01⟩, T10, T11⟩, ⟨TW0, TW1⟩, DT, DF⟩, HC⟩
  ihave HC := creds c $$ HC
  icases HC with ⟨⟨⟨C00, C01⟩, C10, C11⟩, CB⟩
  rw [Finset.Ico_self, bigSep_empty, bigSep_empty, bigSep_empty, bigSep_empty]
  isplitl [PR00 C00 PR01 C01]
  · isplitl [PR00 C00]
    · isplitl [PR00] <;> iassumption
    isplitl [PR01] <;> iassumption
  isplitl [PR10 C10 PR11 C11]
  · isplitl [PR10 C10]
    · isplitl [PR10] <;> iassumption
    isplitl [PR11] <;> iassumption
  isplitl [PS00 T00 PS01 T01]
  · isplitl [PS00 T00]
    · isplitl [PS00]; · iexact PS00
      isplitr; · iempintro
      iexact T00
    isplitl [PS01]; · iexact PS01
    isplitr; · iempintro
    iexact T01
  isplitl [PS10 T10 PS11 T11]
  · isplitl [PS10 T10]
    · isplitl [PS10]; · iexact PS10
      isplitr; · iempintro
      iexact T10
    isplitl [PS11]; · iexact PS11
    isplitr; · iempintro
    iexact T11
  isplitl [PW0 TW0]
  · isplitl [PW0] <;> iassumption
  isplitl [PW1 TW1]
  · isplitl [PW1] <;> iassumption
  isplitl [DT]; · iexact DT
  isplitl [DF]; · iexact DF
  isplitl [PB]; · iexact PB
  iexact CB

theorem SRCs_eq (c : Dev nD) : (SRCs m c : sProp 𝕄) = Pipeline.unscopedRest cfg0.spec c (fun b => m ((c : Thread nD τ).loc b)) := by
  rw [unscopedRest0_eq]
  unfold SRCs SRC
  simp only [winM, woutM, owns_whole]
  refine equiv_iff.mp ⟨?_, ?_⟩
  · show _ ⊢ (_ : sProp 𝕄)
    iintro ⟨⟨A, B⟩, ⟨C, D⟩, E, G⟩
    isplitl [A]; · iexact A
    isplitl [C]; · iexact C
    isplitl [E]; · iexact E
    isplitl [B]; · iexact B
    isplitl [D]; · iexact D
    iexact G
  · show _ ⊢ (_ : sProp 𝕄)
    iintro ⟨A, C, E, B, D, G⟩
    isplitl [A B]
    · isplitl [A]; · iexact A
      iexact B
    isplitl [C D]
    · isplitl [C]; · iexact C
      iexact D
    isplitl [E]; · iexact E
    iexact G

theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(Begin m c ∗ emp) : sProp 𝕄) := by
  rw [Pipeline.unscopedRestP_none, ← SRCs_eq]
  unfold Begin G' ctx
  iintro ⟨HS, Hlev, Hcr, -, #HR, HP, HT⟩
  imodintro
  isplitl
  · isplitl [Hlev]
    · isplitr; · iexact HR
      iexact Hlev
    isplitl [HP HT Hcr]
    · iapply dealt
      isplitl [HP]; · iexact HP
      isplitl [HT]; · iexact HT
      iexact Hcr
    iexact HS
  · iempintro

theorem phi0_intro (c : Dev nD) :
    iprop(Begin m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (Scr_intro c)
  iexact Hr

theorem phi1_exit (c : Dev nD) :
    (dats m ρ 0 c).Φ (Fin.last cfg0.N) ⊢ iprop((unscopedSems0 c ∗ Pipeline.unscopedRest cfg0.spec c (fun b => m ((c : Thread nD τ).loc b)))
      ∗ Pipeline.ownSems0 osem c ∗ Pipeline.scopedRest cfg0.spec c) := by
  rw [show (dats m ρ 0 c).Φ (Fin.last cfg0.N) = Φ₁ m c from rfl, ← SRCs_eq]
  unfold Φ₁
  rw [← sems_eq]
  iintro ⟨HS, Hr, HO, HU⟩
  isplitl [HU HS]
  · isplitl [HU] <;> iassumption
  isplitl [HO]; · iexact HO
  iapply (Scr_exit c)
  iexact Hr

theorem waits (c : Dev nD) : (levAts L lv : sProp 𝕄) ⊢ Pipeline.cellsWaits cfgs (dats m ρ) 0 0 c :=
  Pipeline.cellsWaits_intro cfgs (dats m ρ) 0 0 c fun w s t =>
    mayWait c _ 0 _ (v := 0) (by decide)
      (by
        rcases t with ⟨_ | _, ht⟩
        · exact Above.O₀ c
        · exact Above.zero 0)
      (by fin_cases w <;> fin_cases s <;> exact le_of_eq rfl)

/-! ## The run -/

/-- The result array after the region. -/
theorem mem_blk (i : S512x1024.Idx) : i ∈ ((cfg0.win 1).blk t0_0).view.set := by
  show i ∈ ((View.whole main_v1).slice (win0_1.rect t0_0)).set
  rw [View.set_slice_whole, Rect.mem_set_unit]
  have e : (win0_1.index t0_0 0 * win0_1.size 0 = 0 ∧ win0_1.xsize (grid0.coords t0_0) 0 = 512)
      ∧ win0_1.index t0_0 1 * win0_1.size 1 = 0 ∧ win0_1.xsize (grid0.coords t0_0) 1 = 1024 := by decide +kernel
  have h0 : (i 0 : Nat) < 512 := (i 0).isLt
  have h1 : (i 1 : Nat) < 1024 := (i 1).isLt
  intro a
  match a with
  | ⟨0, _⟩ => show win0_1.index t0_0 0 * win0_1.size 0 ≤ (i 0 : Nat) ∧ (i 0 : Nat) < win0_1.index t0_0 0 * win0_1.size 0 + win0_1.xsize (grid0.coords t0_0) 0
              rw [e.1.1, e.1.2]; omega
  | ⟨1, _⟩ => show win0_1.index t0_0 1 * win0_1.size 1 ≤ (i 1 : Nat) ∧ (i 1 : Nat) < win0_1.index t0_0 1 * win0_1.size 1 + win0_1.xsize (grid0.coords t0_0) 1
              rw [e.2.1, e.2.2]; omega

/-- The one block is the whole array. -/
theorem blk_read (f : S512x1024.Idx → Elt F .f32) (i : S512x1024.Idx) : ((cfg0.win 1).blk t0_0).view.read (Elt F) f i = f i := by
  show f _ = f i
  congr 1
  refine funext fun a => Fin.ext ?_
  have e : win0_1.index t0_0 0 * win0_1.size 0 = 0 ∧ win0_1.index t0_0 1 * win0_1.size 1 = 0 := by decide +kernel
  match a with
  | ⟨0, _⟩ => show win0_1.index t0_0 0 * win0_1.size 0 + 1 * (i 0 : Nat) = (i 0 : Nat)
              rw [e.1]; omega
  | ⟨1, _⟩ => show win0_1.index t0_0 1 * win0_1.size 1 + 1 * (i 1 : Nat) = (i 1 : Nat)
              rw [e.2]; omega

theorem final_out (c : Dev nD) : (dats m ρ 0 c).arrAt (1 : Fin 2) cfg0.N = OUT m :=
  (dats m ρ 0 c).arrAt_eq_of_cover 1 (OUT m) (fun t _ => by
      rw [fin_N0 t]
      funext i
      exact (blk_read (OUT m) i).symm)
    (fun i => ⟨t0_0, flush0_1 _, mem_blk i⟩)

/-- The activations' array after the region. -/
theorem final_in (c : Dev nD) : (dats m ρ 0 c).arrAt (0 : Fin 2) cfg0.N = m ((c : Thread nD τ).loc main_arg0) :=
  (dats (F := F) m ρ 0 c).arrAt_in (0 : Fin 2) rfl _

set_option maxRecDepth 8000 in
/-- From any memory with every semaphore at zero the program ends; the result is the computed one, the arguments are
    what they were, and every semaphore is at zero. -/
theorem run_main : θ_run defs (onTc (τ := τ) (Cert.KernelIdeal.main (F := F))) (s₀ m ρ) (fun r => (∀ c : Dev nD,
      r.2.mem ((c : Thread nD τ).loc main_v1) = OUT m
      ∧ r.2.mem ((c : Thread nD τ).loc main_arg0) = m ((c : Thread nD τ).loc main_arg0)
      ∧ ∀ b ∈ Pipeline.restRefs sig cfg0.spec, r.2.mem ((c : Thread nD τ).loc b) = m ((c : Thread nD τ).loc b))
    ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ Cert.KernelIdeal.main
    (hmain := fun _ => rfl)
    (hbody := fun c => (obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := Begin m) (Y := fun c => iprop(unscopedSems0 c ∗ Pipeline.unscopedRest cfg0.spec c (fun b => m ((c : Thread nD τ).loc b)))) (Z := fun _ => iprop(emp))
    (hX := begin_intro m ρ) (hin := phi0_intro m ρ) (hout := phi1_exit m ρ)
    (QY := fun c s => (∀ sm : SemLoc sig, sm.isScoped .tc = false → s.sem ((c.tc : Thread nD τ), sm) = 0)
      ∧ ∀ b ∈ Pipeline.restRefs sig cfg0.spec, s.mem ((c : Thread nD τ).loc b) = m ((c : Thread nD τ).loc b))
    (hY := fun c s' => by
      iintro ⟨⟨Hu, Hr⟩, -, HSI⟩
      imod (Pipeline.unscopedSems0_read (X := unscopedSems0 c) (c := c) fupd_intro s') $$ [Hu HSI] with ⟨%h1, HSI⟩
      · isplitl [Hu] <;> iassumption
      unfold Pipeline.unscopedRest
      ihave H := (pointsTo_read_all (Pipeline.restRefs sig cfg0.spec) (fun b => (c.tc : Thread nD τ).loc b) (fun b => m ((c : Thread nD τ).loc b)) s') $$ [Hr HSI]
      · isplitl [Hr] <;> iassumption
      icases H with ⟨%h2, HSI⟩
      imodintro
      isplitr; · ipureintro; exact ⟨h1, h2⟩
      iexact HSI)
    (hQ := fun _ h hs => ⟨fun c => ⟨((h c).1 1).trans (final_out m ρ c), ((h c).1 0).trans (final_in m ρ c), (h c).2.2.2⟩, sem_eq_zero hs fun c => (h c).2.2.1⟩)

end Cert.KernelIdeal.Hop
-- ==== Proof.Value.lean ====
/- What the kernel computes over the extended reals: three layers of the whole problem. -/
module

public import proofs.«01_k».proof.Proof.Out
public import Idealize.ShloMosaic.Lib.MatmulPlain
public import Idealize.ShloMosaic.Lib.ValueIdx
public import Idealize.ShloMosaic.Lib.Pipeline.Value
public import Idealize.ShloMosaic.Lib.Pipeline.ValueKit.Acc
public import Idealize.ShloMosaic.PureOps.Ideal.Laws

@[expose] public section

noncomputable section

namespace Cert.KernelIdeal.Hop

open Cert.KernelIdeal Cert.KernelIdeal.Gen
open Idealize.ShloMosaic Idealize.ShloMosaic.TcCoe
open Idealize.SL.Sem
open Idealize.ShloMosaic.ValueIdx

/-! ## The mathematics -/

/-- The whole activation. -/
abbrev Act := (⟨2, ![512, 1024]⟩ : Shape).Idx → EReal
/-- A whole first weight. -/
abbrev Win := (⟨2, ![1024, 16384]⟩ : Shape).Idx → EReal
/-- A whole second weight. -/
abbrev Wout := (⟨2, ![16384, 1024]⟩ : Shape).Idx → EReal

/-- The hidden unit `j` of row `r`. -/
def unit (X : Act) (W : Win) (r : Fin 512) (j : Fin 16384) : EReal := max (∑ t : Fin 1024, X (ix2 r t) * W (ix2 t j)) 0

/-- One layer. -/
def lay (X : Act) (W : Win) (U : Wout) : Act := fun i => ∑ j : Fin 16384, unit X W (i 0) j * U (ix2 j (i 1))

/-- The hidden unit `j` of device `d`. -/
def hid (d : Fin 8) (j : Fin 2048) : Fin 16384 := ⟨d.val * 2048 + j.val, by have := d.isLt; have := j.isLt; omega⟩

/-- Device `d`'s part of a layer. -/
def part (X : Act) (W : Win) (U : Wout) (d : Fin 8) : Act :=
  fun i => ∑ j : Fin 2048, unit X W (i 0) (hid d j) * U (ix2 (hid d j) (i 1))

/-- A layer is the sum of the devices' parts. -/
theorem sum_part (X : Act) (W : Win) (U : Wout) (i : (⟨2, ![512, 1024]⟩ : Shape).Idx) :
    ∑ d : Fin 8, part X W U d i = lay X W U i :=
  Fin.sum_mul_add_fin 8 2048 (fun j : Fin 16384 => unit X W (i 0) j * U (ix2 j (i 1)))

/-- The activation before layer `l`. -/
def stage (A : Act) (W : ℕ → Win) (U : ℕ → Wout) : ℕ → Act
  | 0 => A
  | l + 1 => lay (stage A W U l) (W l) (U l)

/-! ## The payloads at an index -/

theorem drop_unit {α : Type} {a b : ℕ} (v : (⟨3, ![1, a, b]⟩ : Shape).Idx → α)
    (h : (⟨3, ![1, a, b]⟩ : Shape).ShapeCasts ⟨2, ![a, b]⟩) (i : Fin a) (k : Fin b) :
    shapeCast ⟨2, ![a, b]⟩ v h (ix2 i k) = v (ix3 0 i k) := by
  refine (shapeCast_dropUnit_apply (n := 2) ![a, b] v h (ix2 i k)).trans (congrArg v (funext fun x => ?_))
  match x with
  | 0 => rfl
  | 1 => rfl
  | 2 => rfl

theorem add_unit {α : Type} {a b : ℕ} (v : (⟨2, ![a, b]⟩ : Shape).Idx → α)
    (h : (⟨2, ![a, b]⟩ : Shape).ShapeCasts ⟨3, ![1, a, b]⟩) (i : Fin a) (k : Fin b) :
    shapeCast ⟨3, ![1, a, b]⟩ v h (ix3 0 i k) = v (ix2 i k) := by
  refine (shapeCast_addUnit_apply (n := 2) ![a, b] v h (ix3 0 i k)).trans (congrArg v (funext fun x => ?_))
  match x with
  | 0 => rfl
  | 1 => rfl

theorem first_plain : dot_S64x1024_S1024x2048_S64x2048_1_0_0_1_n_n = DotDims.plain 64 1024 2048 := rfl
theorem second_plain : dot_S64x2048_S2048x1024_S64x1024_1_0_0_1_n_n = DotDims.plain 64 2048 1024 := rfl

theorem zero_word {s : Shape} (i : s.Idx) : constant (F := Ideal) s .f32 0x00000000#32 i = 0 := Ideal.ofBits_zero_f32

theorem contrib_apply (a : V Ideal) (wi : Vec Ideal S1024x2048 .f32) (wo : Vec Ideal S2048x1024 .f32) (i : Fin 64) (k : Fin 1024) :
    contrib (F := Ideal) a wi wo (ix2 i k)
      = ∑ j : Fin 2048, max (∑ t : Fin 1024, a (ix3 0 i t) * wi (ix2 t j)) 0 * wo (ix2 j k) := by
  unfold contrib k0_pay2
  rw [first_plain, second_plain]
  refine (Ideal.matmul_plain_apply (M := 64) (K := 2048) (N := 1024) none _ wo _ i k).trans ?_
  rw [zero_word, zero_add]
  refine Finset.sum_congr rfl fun j _ => congrArg (· * wo (ix2 j k)) ?_
  rw [maximumf_apply]
  refine congrArg₂ max ?_ Ideal.ofBits_zero_f32
  refine (Ideal.matmul_plain_apply (M := 64) (K := 1024) (N := 2048) none _ wi _ i j).trans ?_
  rw [zero_word, zero_add]
  exact Finset.sum_congr rfl fun t _ => congrArg (· * wi (ix2 t j)) (drop_unit a _ i t)

theorem inVal_apply (x : Vec Ideal S64x1024 .f32) (i : Fin 64) (k : Fin 1024) :
    inVal (F := Ideal) x (ix3 0 i k) = x (ix2 i k) := by
  unfold inVal k0_pay1
  refine (add_unit _ _ i k).trans ?_
  rw [truncf_apply]
  exact congrFun (shapeCast_self _ _) _

theorem headVal_apply (v : FVec Ideal S64x1024 .f32) (i : Fin 64) (k : Fin 1024) :
    headVal (F := Ideal) v (ix3 0 i k) = v (ix2 i k) := by
  unfold headVal k0_pay3
  exact add_unit _ _ i k

theorem addVal_apply (v : FVec Ideal S64x1024 .f32) (a : V Ideal) (i : Fin 64) (k : Fin 1024) :
    addVal (F := Ideal) v a (ix3 0 i k) = a (ix3 0 i k) + v (ix2 i k) := by
  unfold addVal k0_pay5
  refine (add_unit _ _ i k).trans ?_
  rw [truncf_apply, addf_apply, extf_apply]
  exact congrArg (· + v (ix2 i k)) (drop_unit a _ i k)

theorem nextVal_apply (a : V Ideal) (i : Fin 64) (k : Fin 1024) :
    nextVal (F := Ideal) a (ix3 0 i k) = a (ix3 0 i k) := by
  unfold nextVal k0_pay18
  exact (add_unit _ _ i k).trans (drop_unit a _ i k)

theorem outVal_apply (a : HV Ideal) (i : Fin 32) (k : Fin 1024) :
    outVal (F := Ideal) a (ix2 i k) = a (ix3 0 i k) := by
  unfold outVal k0_pay52
  rw [extf_apply]
  exact drop_unit a _ i k

/-! ## Receiving -/

/-- The direction that a slot's row travels in. -/
def rowSide (i : Fin 64) : Bool := decide (32 ≤ i.val)

theorem hv_apply (r : Bool) (v : V Ideal) (i : Fin 32) (k : Fin 1024) (i' : Fin 64) (e : i'.val = row0 r + i.val) :
    hv r v (ix3 0 i k) = v (ix3 0 i' k) := by
  refine congrArg v (funext fun x => Fin.ext ?_)
  match x with
  | 0 => show 0 + 1 * 0 = 0; rfl
  | 1 => show row0 r + 1 * i.val = i'.val; omega
  | 2 => show 0 + 1 * k.val = k.val; omega

theorem rcv_apply (p : Dev nD → V Ideal) (c : Dev nD) (i : Fin 64) (k : Fin 1024) :
    rcv p c (ix3 0 i k) = p (dn (!rowSide i) c) (ix3 0 i k) := by
  have hi : i.val < 64 := i.isLt
  unfold rcv glue rowSide
  by_cases h : i.val < 32
  · rw [dif_pos (show ((ix3 0 i k : S1x64x1024.Idx) 1).val < 32 from h), decide_eq_false (by omega)]
    exact hv_apply false _ ⟨i.val, h⟩ k i (by show i.val = 0 + i.val; omega)
  · rw [dif_neg (show ¬ ((ix3 0 i k : S1x64x1024.Idx) 1).val < 32 from h), decide_eq_true (by omega)]
    exact hv_apply true _ ⟨i.val - 32, by omega⟩ k i (by show i.val = 32 + (i.val - 32); omega)

/-! ## The layers -/

section
variable (m : (ℓ : Loc nD τ sig) → Buf (Elt Ideal) ℓ) (A : Act) (W : ℕ → Win) (U : ℕ → Wout)

/-- Row `i` of chunk `q`. -/
def row (q : Fin 8) (i : Fin 64) : Fin 512 := ⟨q.val * 64 + i.val, by have := q.isLt; have := i.isLt; omega⟩

/-- The devices hold the problem's arrays. -/
structure Holds : Prop where
  x : ∀ (c : Dev nD) (i : Fin 64) (k : Fin 1024), xv m c (ix2 i k) = A (ix2 (row c i) k)
  win : ∀ (l : ℕ) (c : Dev nD) (t : Fin 1024) (j : Fin 2048), WI m l c (ix2 t j) = W l (ix2 t (hid c j))
  wout : ∀ (l : ℕ) (c : Dev nD) (j : Fin 2048) (k : Fin 1024), WO m l c (ix2 j k) = U l (ix2 (hid c j) k)

/-- The chunk that row `i` of device `c`'s slot belongs to after `n` hops. -/
def held (n : ℕ) (c : Dev nD) (i : Fin 64) : Fin 8 := dnI (!rowSide i) n c

/-- The activation of layer `l` after `n` hops. -/
def ActAt (l n : ℕ) (a : Dev nD → V Ideal) : Prop :=
  ∀ (c : Dev nD) (i : Fin 64) (k : Fin 1024), a c (ix3 0 i k) = stage A W U l (ix2 (row (held n c i) i) k)

/-- The accumulator of layer `l` after `t` of the layer's hops: the parts of the devices that the rows have visited. -/
def AccAt (l t : ℕ) (a : Dev nD → V Ideal) : Prop :=
  ∀ (c : Dev nD) (i : Fin 64) (k : Fin 1024), a c (ix3 0 i k)
    = ∑ s ∈ Finset.range (t + 1), part (stage A W U l) (W l) (U l) (dnI (rowSide i) (7 * l + s) (held (7 * l + t) c i))
        (ix2 (row (held (7 * l + t) c i) i) k)

/-- What is sent after `t` of layer `l`'s hops. -/
def LayerAt (l t : ℕ) (p : Dev nD → V Ideal × V Ideal) : Prop :=
  ActAt A W U l (7 * l + t) (fun c => (p c).1) ∧ AccAt A W U l t (fun c => (p c).2)

theorem held_dn (n : ℕ) (c : Dev nD) (i : Fin 64) : held n (dn (!rowSide i) c) i = held (n + 1) c i := dnI_dn _ _ _

/-- The device that a row is on is the last one that it has visited. -/
theorem dnI_held (n : ℕ) (c : Dev nD) (i : Fin 64) : dnI (rowSide i) n (held n c i) = c := by
  have hc : c.val < 8 := c.isLt
  apply Fin.ext
  unfold held
  cases rowSide i <;> simp only [dnI, Bool.not_true, Bool.not_false, cond_true, cond_false] <;> omega

variable {m A W U}

theorem con_apply (H : Holds m A W U) (l : ℕ) (c : Dev nD) (a : V Ideal) (i : Fin 64) (r : Fin 512)
    (ha : ∀ k, a (ix3 0 i k) = stage A W U l (ix2 r k)) (k : Fin 1024) :
    con m l c a (ix2 i k) = part (stage A W U l) (W l) (U l) c (ix2 r k) := by
  refine (contrib_apply a _ _ i k).trans (Finset.sum_congr rfl fun j _ => ?_)
  rw [H.wout]
  refine congrArg (fun y => max y 0 * U l (ix2 (hid c j) k)) (Finset.sum_congr rfl fun t _ => ?_)
  rw [ha, H.win]

theorem layer_fresh (H : Holds m A W U) (l : ℕ) (a : Dev nD → V Ideal) (ha : ActAt A W U l (7 * l) a) :
    LayerAt A W U l 0 (fun c => fresh m l c (a c)) := by
  refine ⟨ha, fun c i k => ?_⟩
  refine (headVal_apply _ i k).trans ((con_apply H l c (a c) i _ (ha c i) k).trans ?_)
  rw [Finset.sum_range_one, Nat.add_zero, dnI_held]

theorem layer_arr (H : Holds m A W U) (l t : ℕ) (ht : t ≤ 6) (p : Dev nD → V Ideal × V Ideal) (hp : LayerAt A W U l t p) :
    LayerAt A W U l (t + 1) (fun c => arr m (7 * l + t) p c) := by
  have ha : ActAt A W U l (7 * l + (t + 1)) (fun c => (arr m (7 * l + t) p c).1) := fun c i k => by
    refine (rcv_apply (fun d => (p d).1) c i k).trans ((hp.1 _ i k).trans ?_)
    rw [held_dn]; rfl
  refine ⟨ha, fun c i k => ?_⟩
  refine (addVal_apply _ _ i k).trans ?_
  rw [rcv_apply (fun d => (p d).2), show (7 * l + t) / 7 = l by omega,
    con_apply H l c (rcv (fun d => (p d).1) c) i _ (ha c i) k, Finset.sum_range_succ, dnI_held]
  refine congrArg (· + _) ((hp.2 _ i k).trans ?_)
  rw [held_dn]; rfl

/-- After all hops of a layer the accumulator is the next layer's activation. -/
theorem layer_end (l : ℕ) (a : Dev nD → V Ideal) (h : AccAt A W U l 7 a) : ActAt A W U (l + 1) (7 * l + 7) a := by
  intro c i k
  refine (h c i k).trans ?_
  generalize held (7 * l + 7) c i = q
  rw [Finset.sum_range]
  refine Eq.trans ?_ (sum_part (stage A W U l) (W l) (U l) (ix2 (row q i) k))
  have hj : Function.Injective (fun s : Fin 8 => dnI (rowSide i) (7 * l + s.val) q) := by
    intro s s' e
    have e' := congrArg Fin.val e
    have hs := s.isLt
    have hs' := s'.isLt
    apply Fin.ext
    revert e'
    cases rowSide i <;> simp only [dnI, cond_true, cond_false] <;> omega
  exact Fintype.sum_bijective _ (Finite.injective_iff_bijective.mp hj) _ _ fun _ => rfl

theorem layer_next (l : ℕ) (a : Dev nD → V Ideal) (h : AccAt A W U l 7 a) :
    ActAt A W U (l + 1) (7 * (l + 1)) (fun c => nextVal (a c)) := fun c i k =>
  (nextVal_apply (a c) i k).trans (layer_end l a h c i k)

theorem layer_begin (H : Holds m A W U) : ActAt A W U 0 0 (fun c => inVal (xv m c)) := fun c i k => by
  have hc : c.val < 8 := c.isLt
  refine (inVal_apply _ i k).trans ((H.x c i k).trans ?_)
  have : held 0 c i = c := by
    apply Fin.ext
    unfold held
    cases rowSide i <;> simp only [dnI, Bool.not_true, Bool.not_false, cond_true, cond_false] <;> omega
  rw [this]; rfl

/-- Within a layer. -/
theorem layer_hops (H : Holds m A W U) (l : ℕ) (h : LayerAt A W U l 0 (sent m (7 * l))) :
    ∀ t, t ≤ 6 → LayerAt A W U l t (sent m (7 * l + t)) := by
  intro t
  induction t with
  | zero => exact fun _ => h
  | succ t ih =>
    intro ht
    have e : sent m (7 * l + (t + 1)) = fun c => arr m (7 * l + t) (sent m (7 * l + t)) c := by
      funext c
      show (bif decide ((7 * l + t + 1) % 7 = 0) then _ else _) = _
      rw [decide_eq_false (by omega)]; rfl
    rw [e]
    exact layer_arr H l t (by omega) _ (ih (by omega))

/-- A layer's last accumulator. -/
theorem layer_last (H : Holds m A W U) (l : ℕ) (h : LayerAt A W U l 0 (sent m (7 * l))) :
    LayerAt A W U l 7 (fun c => arr m (7 * l + 6) (sent m (7 * l + 6)) c) :=
  layer_arr H l 6 le_rfl _ (layer_hops H l h 6 le_rfl)

theorem layer_all (H : Holds m A W U) : ∀ l, LayerAt A W U l 0 (sent m (7 * l))
  | 0 => layer_fresh H 0 _ (layer_begin H)
  | l + 1 => by
    have e : sent m (7 * (l + 1)) = fun c => fresh m (l + 1) c (nextVal (arr m (7 * l + 6) (sent m (7 * l + 6)) c).2) := by
      funext c
      show (bif decide ((7 * l + 6 + 1) % 7 = 0) then fresh m ((7 * l + 6 + 1) / 7) c _ else _) = _
      rw [decide_eq_true (by omega), show (7 * l + 6 + 1) / 7 = l + 1 by omega]; rfl
    rw [e]
    exact layer_fresh H (l + 1) _ (layer_next l _ (layer_last H l (layer_all H l)).2)

/-- The output is the third layer's. -/
theorem OUT_eq (H : Holds m A W U) : OUT m = stage A W U 3 := by
  funext i
  have h0 : (i 0).val < 512 := (i 0).isLt
  have hL := layer_end 2 _ (layer_last H 2 (layer_all H 2)).2
  unfold OUT
  have hs : rowSide ⟨(i 0).val % 64, Nat.mod_lt _ (by decide)⟩ = decide (32 ≤ (i 0).val % 64) := rfl
  generalize hr : decide (32 ≤ (i 0).val % 64) = r at hs ⊢
  refine (outVal_apply _ _ _).trans ((hv_apply r _ _ _ ⟨(i 0).val % 64, Nat.mod_lt _ (by decide)⟩ ?_).trans
    ((hL (chunkDev r ((i 0).val / 64)) _ (i 1)).trans ?_))
  · show (i 0).val % 64 = row0 r + (i 0).val % 32
    cases r
    · have := of_decide_eq_false hr; show _ = 0 + _; omega
    · have := of_decide_eq_true hr; show _ = 32 + _; omega
  · refine (congrArg (stage A W U 3) ?_).trans (congrArg (stage A W U 3) (eq_ix2 i).symm)
    refine congrArg (fun q : Fin 512 => (ix2 q (i 1) : (⟨2, ![512, 1024]⟩ : Shape).Idx)) (Fin.ext ?_)
    show (held (7 * 2 + 7) (chunkDev r ((i 0).val / 64)) ⟨(i 0).val % 64, Nat.mod_lt _ (by decide)⟩).val * 64 + (i 0).val % 64 = (i 0).val
    have : (held (7 * 2 + 7) (chunkDev r ((i 0).val / 64)) ⟨(i 0).val % 64, Nat.mod_lt _ (by decide)⟩).val = (i 0).val / 64 := by
      unfold held
      rw [hs]
      cases r <;> simp only [dnI, chunkDev, Bool.not_true, Bool.not_false, cond_true, cond_false] <;> omega
    omega

end

end Cert.KernelIdeal.Hop

end
-- ==== Proof.Whole.lean ====
/- What the reference computes over the extended reals, and that the devices' blocks are what the kernel needs. -/
module

public import proofs.«01_k».proof.Proof.Value
public import proofs.«01_k».proof.Proof.Gen.ReferenceIdeal.Run
public import Idealize.ShloMosaic.Lib.StackMember
public import Idealize.ShloMosaic.Lib.Layout

@[expose] public section

noncomputable section

namespace Cert.KernelIdeal.Hop

open Idealize.ShloMosaic Idealize.ShloMosaic.TcCoe
open Idealize.SL.Sem
open Idealize.ShloMosaic.ValueIdx
open Cert.KernelIdeal (nD τ sig S64x1024 S1024x2048 S2048x1024)
open Cert.KernelIdeal.Gen

/-! ## The reference -/

section
open Cert.ReferenceIdeal Cert.ReferenceIdeal.Gen

theorem in_plain : dot_S512x1024_S1024x16384_S512x16384_1_0_0_1_n_n = DotDims.plain 512 1024 16384 := rfl
theorem out_plain : dot_S512x16384_S16384x1024_S512x1024_1_0_0_1_n_n = DotDims.plain 512 16384 1024 := rfl

/-- One layer of the reference. -/
theorem lay_eq (X : FVec Ideal S512x1024 .f32) (W : FVec Ideal S1024x16384 .f32) (U : FVec Ideal S16384x1024 .f32) :
    Host.dotGeneral dot_S512x16384_S16384x1024_S512x1024_1_0_0_1_n_n none
      (maximumf (Host.dotGeneral dot_S512x1024_S1024x16384_S512x16384_1_0_0_1_n_n none X W)
        (broadcastInDim S512x16384 ![] bcast_S_S512x16384 (constant (F := Ideal) S_ .f32 0x00000000#32))) U
      = lay X W U := by
  funext i
  obtain ⟨r, k, rfl⟩ : ∃ r k, i = ix2 (n0 := 512) (n1 := 1024) r k := ⟨_, _, eq_ix2 i⟩
  rw [out_plain, in_plain]
  refine (StackMember.dotGeneral_plain_apply none _ U r k).trans (Finset.sum_congr rfl fun j _ => ?_)
  refine congrArg (· * U (ix2 j k)) ?_
  rw [maximumf_apply]
  exact congrArg₂ max (StackMember.dotGeneral_plain_apply none X W r j) Ideal.ofBits_zero_f32

end

/-! ## The blocks -/

/-- The problem's first weights. -/
def ws (a b c : Win) : ℕ → Win
  | 0 => a
  | 1 => b
  | _ => c

/-- The problem's second weights. -/
def us (a b c : Wout) : ℕ → Wout
  | 0 => a
  | 1 => b
  | _ => c

variable (m : (ℓ : Loc nD τ sig) → Buf (Elt Ideal) ℓ)

theorem block_cols (v : Win) (c : Fin 8) (t : Fin 1024) (j : Fin 2048) :
    Layout.block ⟨2, ![1024, 2048]⟩ ⟨2, ![1024, 16384]⟩ 1 8 c v (by decide) (ix2 t j) = v (ix2 t (hid c j)) := by
  refine congrArg v (funext fun a => Fin.ext ?_)
  match a with
  | 0 => rfl
  | 1 => rfl

theorem block_rows (v : Wout) (c : Fin 8) (j : Fin 2048) (k : Fin 1024) :
    Layout.block ⟨2, ![2048, 1024]⟩ ⟨2, ![16384, 1024]⟩ 0 8 c v (by decide) (ix2 j k) = v (ix2 (hid c j) k) := by
  refine congrArg v (funext fun a => Fin.ext ?_)
  match a with
  | 0 => rfl
  | 1 => rfl

theorem block_act (v : Act) (c : Fin 8) (i : Fin 64) (k : Fin 1024) :
    Layout.block ⟨2, ![64, 1024]⟩ ⟨2, ![512, 1024]⟩ 0 8 c v (by decide) (ix2 i k) = v (ix2 (row c i) k) := by
  refine congrArg v (funext fun a => Fin.ext ?_)
  match a with
  | 0 => rfl
  | 1 => rfl

/-- The input block is what the argument holds. -/
theorem xv_eq (c : Dev nD) : xv m c = m ((c : Thread nD τ).loc Cert.KernelIdeal.main_arg0) :=
  Memref.read_access_unit_zero (Elt Ideal) Cert.KernelIdeal.main_arg0 (funext fun a => by fin_cases a <;> decide)
    (fun a => by fin_cases a <;> decide) _

theorem holds_of (a0 : Act) (w0 w1 w2 : Win) (u0 u1 u2 : Wout)
    (h : ∀ c : Dev nD,
      m ((c.tc : Thread nD τ).loc Cert.KernelIdeal.main_arg0) = Layout.block ⟨2, ![64, 1024]⟩ ⟨2, ![512, 1024]⟩ 0 8 c a0
      ∧ m ((c.tc : Thread nD τ).loc Cert.KernelIdeal.main_arg1) = Layout.block ⟨2, ![1024, 2048]⟩ ⟨2, ![1024, 16384]⟩ 1 8 c w0
      ∧ m ((c.tc : Thread nD τ).loc Cert.KernelIdeal.main_arg2) = Layout.block ⟨2, ![1024, 2048]⟩ ⟨2, ![1024, 16384]⟩ 1 8 c w1
      ∧ m ((c.tc : Thread nD τ).loc Cert.KernelIdeal.main_arg3) = Layout.block ⟨2, ![1024, 2048]⟩ ⟨2, ![1024, 16384]⟩ 1 8 c w2
      ∧ m ((c.tc : Thread nD τ).loc Cert.KernelIdeal.main_arg4) = Layout.block ⟨2, ![2048, 1024]⟩ ⟨2, ![16384, 1024]⟩ 0 8 c u0
      ∧ m ((c.tc : Thread nD τ).loc Cert.KernelIdeal.main_arg5) = Layout.block ⟨2, ![2048, 1024]⟩ ⟨2, ![16384, 1024]⟩ 0 8 c u1
      ∧ m ((c.tc : Thread nD τ).loc Cert.KernelIdeal.main_arg6) = Layout.block ⟨2, ![2048, 1024]⟩ ⟨2, ![16384, 1024]⟩ 0 8 c u2) :
    Holds m a0 (ws w0 w1 w2) (us u0 u1 u2) where
  x c i k := (congrFun ((xv_eq m c).trans (h c).1) (ix2 i k)).trans (block_act a0 c i k)
  win
    | 0, c, t, j => (congrFun (h c).2.1 (ix2 t j)).trans (block_cols w0 c t j)
    | 1, c, t, j => (congrFun (h c).2.2.1 (ix2 t j)).trans (block_cols w1 c t j)
    | _ + 2, c, t, j => (congrFun (h c).2.2.2.1 (ix2 t j)).trans (block_cols w2 c t j)
  wout
    | 0, c, j, k => (congrFun (h c).2.2.2.2.1 (ix2 j k)).trans (block_rows u0 c j k)
    | 1, c, j, k => (congrFun (h c).2.2.2.2.2.1 (ix2 j k)).trans (block_rows u1 c j k)
    | _ + 2, c, j, k => (congrFun (h c).2.2.2.2.2.2 (ix2 j k)).trans (block_rows u2 c j k)

end Cert.KernelIdeal.Hop

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.K.Launch
public import proofs.«01_k».proof.Proof.Whole
public import Idealize.ShloMosaic.Adequacy
public import Idealize.ShloMosaic.Init

@[expose] public section

noncomputable section

namespace Cert.Proof

open Idealize.ShloMosaic Idealize.SL.Sem

/-- The kernel as printed ends with its arguments unchanged and every counter at zero. -/
theorem frame_Kernel : Cert.quiescent_Kernel := fun m g _ =>
  (θ_run Cert.Kernel.defs _ _).mono (fun _ h => ⟨fun c => ⟨(h.1 c).2.1,
    (h.1 c).2.2 Cert.Kernel.main_arg1 (Pipeline.mem_restRefs_of Cert.Kernel.main_arg1 (by decide) (by decide)),
    (h.1 c).2.2 Cert.Kernel.main_arg2 (Pipeline.mem_restRefs_of Cert.Kernel.main_arg2 (by decide) (by decide)),
    (h.1 c).2.2 Cert.Kernel.main_arg3 (Pipeline.mem_restRefs_of Cert.Kernel.main_arg3 (by decide) (by decide)),
    (h.1 c).2.2 Cert.Kernel.main_arg4 (Pipeline.mem_restRefs_of Cert.Kernel.main_arg4 (by decide) (by decide)),
    (h.1 c).2.2 Cert.Kernel.main_arg5 (Pipeline.mem_restRefs_of Cert.Kernel.main_arg5 (by decide) (by decide)),
    (h.1 c).2.2 Cert.Kernel.main_arg6 (Pipeline.mem_restRefs_of Cert.Kernel.main_arg6 (by decide) (by decide))⟩, h.2⟩)
    (Cert.Kernel.Hop.run_main (F := Bits) m g)

/-- The kernel over the reals: its result, its arguments, its counters. -/
theorem run_KernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_v1) = Cert.KernelIdeal.Hop.OUT m
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  (θ_run Cert.KernelIdeal.defs _ _).mono (fun _ h => ⟨fun c => ⟨(h.1 c).1, (h.1 c).2.1,
    (h.1 c).2.2 Cert.KernelIdeal.main_arg1 (Pipeline.mem_restRefs_of Cert.KernelIdeal.main_arg1 (by decide) (by decide)),
    (h.1 c).2.2 Cert.KernelIdeal.main_arg2 (Pipeline.mem_restRefs_of Cert.KernelIdeal.main_arg2 (by decide) (by decide)),
    (h.1 c).2.2 Cert.KernelIdeal.main_arg3 (Pipeline.mem_restRefs_of Cert.KernelIdeal.main_arg3 (by decide) (by decide)),
    (h.1 c).2.2 Cert.KernelIdeal.main_arg4 (Pipeline.mem_restRefs_of Cert.KernelIdeal.main_arg4 (by decide) (by decide)),
    (h.1 c).2.2 Cert.KernelIdeal.main_arg5 (Pipeline.mem_restRefs_of Cert.KernelIdeal.main_arg5 (by decide) (by decide)),
    (h.1 c).2.2 Cert.KernelIdeal.main_arg6 (Pipeline.mem_restRefs_of Cert.KernelIdeal.main_arg6 (by decide) (by decide))⟩, h.2⟩)
    (Cert.KernelIdeal.Hop.run_main (F := Ideal) m g)

/-- The kernel over the reals ends with its arguments unchanged and every counter at zero. -/
theorem frame_KernelIdeal : Cert.quiescent_KernelIdeal := fun m g _ =>
  (θ_run Cert.KernelIdeal.defs _ _).mono (fun _ h => ⟨fun c => (h.1 c).2, h.2⟩) (run_KernelIdeal m g)

/-- The reference ends with its arguments unchanged; it has no counters. -/
theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the reals the kernel computes the reference's result, on every device. -/
theorem algebraic : Cert.algebraic_KernelIdeal_ReferenceIdeal := by
  intro m g m' g' _ hagree
  have H := Cert.KernelIdeal.Hop.holds_of m _ _ _ _ _ _ _ hagree
  refine ⟨Cert.KernelIdeal.Hop.OUT (F := Ideal) m, ?_, ?_⟩
  · exact (θ_run Cert.KernelIdeal.defs _ _).mono (fun _ h => h.1) (run_KernelIdeal m g)
  · refine (θ_run Cert.ReferenceIdeal.defs _ _).mono (fun _ h => ⟨(h 0).1.trans ?_, (h 0).2⟩)
      (Cert.ReferenceIdeal.Value.run (F := Ideal) m' g')
    rw [Cert.KernelIdeal.Hop.OUT_eq H, Cert.KernelIdeal.Hop.lay_eq, Cert.KernelIdeal.Hop.lay_eq, Cert.KernelIdeal.Hop.lay_eq]
    rfl

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
